-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x16x160 : Shape := ⟨4, ![4, 512, 16, 160]⟩
abbrev S4x512x16 : Shape := ⟨3, ![4, 512, 16]⟩
abbrev S4x512x2560 : Shape := ⟨3, ![4, 512, 2560]⟩
abbrev S4x512 : Shape := ⟨2, ![4, 512]⟩
abbrev S4x8x2x128x896 : Shape := ⟨5, ![4, 8, 2, 128, 896]⟩
abbrev S4x8x2x128 : Shape := ⟨4, ![4, 8, 2, 128]⟩
abbrev S896x2560 : Shape := ⟨2, ![896, 2560]⟩
abbrev S2560 : Shape := ⟨1, ![2560]⟩
abbrev S32x1x64 : Shape := ⟨3, ![32, 1, 64]⟩
abbrev S4x8x256x896 : Shape := ⟨4, ![4, 8, 256, 896]⟩
abbrev S1x2560 : Shape := ⟨2, ![1, 2560]⟩
abbrev S1x1x256x896 : Shape := ⟨4, ![1, 1, 256, 896]⟩
abbrev S1x1x2x128 : Shape := ⟨4, ![1, 1, 2, 128]⟩
abbrev S1x64x2560 : Shape := ⟨3, ![1, 64, 2560]⟩
abbrev S1x64x16 : Shape := ⟨3, ![1, 64, 16]⟩
abbrev S1x1x64 : Shape := ⟨3, ![1, 1, 64]⟩
abbrev S2560x896 : Shape := ⟨2, ![2560, 896]⟩
abbrev S2560x128 : Shape := ⟨2, ![2560, 128]⟩
abbrev S2560x256 : Shape := ⟨2, ![2560, 256]⟩
abbrev S64x2560 : Shape := ⟨2, ![64, 2560]⟩
abbrev S896x128 : Shape := ⟨2, ![896, 128]⟩
abbrev S1x128 : Shape := ⟨2, ![1, 128]⟩
abbrev S128x896 : Shape := ⟨2, ![128, 896]⟩
abbrev S128x128 : Shape := ⟨2, ![128, 128]⟩
abbrev S1x64x128 : Shape := ⟨3, ![1, 64, 128]⟩
abbrev S64x128 : Shape := ⟨2, ![64, 128]⟩
abbrev S64x16 : Shape := ⟨2, ![64, 16]⟩
abbrev S16x64 : Shape := ⟨2, ![16, 64]⟩
abbrev S1x64 : Shape := ⟨2, ![1, 64]⟩
abbrev S64x1 : Shape := ⟨2, ![64, 1]⟩
abbrev S1x1x1x128 : Shape := ⟨4, ![1, 1, 1, 128]⟩
abbrev S1x256 : Shape := ⟨2, ![1, 256]⟩
abbrev S256x896 : Shape := ⟨2, ![256, 896]⟩
abbrev S64x256 : Shape := ⟨2, ![64, 256]⟩
abbrev S64x640 : Shape := ⟨2, ![64, 640]⟩
abbrev S640x896 : Shape := ⟨2, ![640, 896]⟩
abbrev S640x256 : Shape := ⟨2, ![640, 256]⟩
abbrev S640x128 : Shape := ⟨2, ![640, 128]⟩
abbrev S160x128 : Shape := ⟨2, ![160, 128]⟩
abbrev S128x160 : Shape := ⟨2, ![128, 160]⟩
abbrev S160x256 : Shape := ⟨2, ![160, 256]⟩
abbrev S64x160 : Shape := ⟨2, ![64, 160]⟩
abbrev S64 : Shape := ⟨1, ![64]⟩
abbrev S128x256 : Shape := ⟨2, ![128, 256]⟩
abbrev S1x64x640 : Shape := ⟨3, ![1, 64, 640]⟩
abbrev S896x256 : Shape := ⟨2, ![896, 256]⟩

abbrev nBuf : Space → Nat
  | .hbm => 21
  | .vmem => 42
  | .smem => 0
  | _ => 0

abbrev bufTy : (tb : Table) → Fin (tcTables nBuf tb) → BufTy
  | .hbm, ⟨0, _⟩ => ⟨S4x512x16x160, .fp8e4m3⟩
  | .hbm, ⟨1, _⟩ => ⟨S4x512x16, .f32⟩
  | .hbm, ⟨2, _⟩ => ⟨S4x512x2560, .fp8e5m2⟩
  | .hbm, ⟨3, _⟩ => ⟨S4x512, .f32⟩
  | .hbm, ⟨4, _⟩ => ⟨S4x8x2x128x896, .fp8e4m3⟩
  | .hbm, ⟨5, _⟩ => ⟨S4x8x2x128, .f32⟩
  | .hbm, ⟨6, _⟩ => ⟨S896x2560, .fp8e4m3⟩
  | .hbm, ⟨7, _⟩ => ⟨S896x2560, .fp8e4m3⟩
  | .hbm, ⟨8, _⟩ => ⟨S2560, .f32⟩
  | .hbm, ⟨9, _⟩ => ⟨S2560, .f32⟩
  | .hbm, ⟨10, _⟩ => ⟨S4x512x2560, .fp8e4m3⟩
  | .hbm, ⟨11, _⟩ => ⟨S32x1x64, .f32⟩
  | .hbm, ⟨12, _⟩ => ⟨S4x8x256x896, .fp8e4m3⟩
  | .hbm, ⟨13, _⟩ => ⟨S1x2560, .f32⟩
  | .hbm, ⟨14, _⟩ => ⟨S1x2560, .f32⟩
  | .hbm, ⟨15, _⟩ => ⟨S4x512x2560, .bf16⟩
  | .hbm, ⟨16, _⟩ => ⟨S4x8x256x896, .bf16⟩
  | .hbm, ⟨17, _⟩ => ⟨S896x2560, .f32⟩
  | .hbm, ⟨18, _⟩ => ⟨S896x2560, .f32⟩
  | .hbm, ⟨19, _⟩ => ⟨S4x512x16x160, .bf16⟩
  | .hbm, ⟨20, _⟩ => ⟨S4x8x2x128x896, .bf16⟩
  | .local _ .vmem, ⟨0, _⟩ => ⟨S1x1x256x896, .fp8e4m3⟩
  | .local _ .vmem, ⟨1, _⟩ => ⟨S1x1x256x896, .fp8e4m3⟩
  | .local _ .vmem, ⟨2, _⟩ => ⟨S1x1x2x128, .f32⟩
  | .local _ .vmem, ⟨3, _⟩ => ⟨S1x1x2x128, .f32⟩
  | .local _ .vmem, ⟨4, _⟩ => ⟨S1x64x2560, .fp8e4m3⟩
  | .local _ .vmem, ⟨5, _⟩ => ⟨S1x64x2560, .fp8e4m3⟩
  | .local _ .vmem, ⟨6, _⟩ => ⟨S1x64x2560, .fp8e4m3⟩
  | .local _ .vmem, ⟨7, _⟩ => ⟨S1x64x2560, .fp8e4m3⟩
  | .local _ .vmem, ⟨8, _⟩ => ⟨S1x64x2560, .fp8e5m2⟩
  | .local _ .vmem, ⟨9, _⟩ => ⟨S1x64x2560, .fp8e5m2⟩
  | .local _ .vmem, ⟨10, _⟩ => ⟨S1x64x2560, .fp8e5m2⟩
  | .local _ .vmem, ⟨11, _⟩ => ⟨S1x64x2560, .fp8e5m2⟩
  | .local _ .vmem, ⟨12, _⟩ => ⟨S1x64x16, .f32⟩
  | .local _ .vmem, ⟨13, _⟩ => ⟨S1x64x16, .f32⟩
  | .local _ .vmem, ⟨14, _⟩ => ⟨S1x64x16, .f32⟩
  | .local _ .vmem, ⟨15, _⟩ => ⟨S1x64x16, .f32⟩
  | .local _ .vmem, ⟨16, _⟩ => ⟨S1x1x64, .f32⟩
  | .local _ .vmem, ⟨17, _⟩ => ⟨S1x1x64, .f32⟩
  | .local _ .vmem, ⟨18, _⟩ => ⟨S1x1x64, .f32⟩
  | .local _ .vmem, ⟨19, _⟩ => ⟨S1x1x64, .f32⟩
  | .local _ .vmem, ⟨20, _⟩ => ⟨S896x2560, .fp8e4m3⟩
  | .local _ .vmem, ⟨21, _⟩ => ⟨S896x2560, .fp8e4m3⟩
  | .local _ .vmem, ⟨22, _⟩ => ⟨S1x2560, .f32⟩
  | .local _ .vmem, ⟨23, _⟩ => ⟨S1x2560, .f32⟩
  | .local _ .vmem, ⟨24, _⟩ => ⟨S1x64x2560, .bf16⟩
  | .local _ .vmem, ⟨25, _⟩ => ⟨S1x64x2560, .bf16⟩
  | .local _ .vmem, ⟨26, _⟩ => ⟨S1x1x256x896, .bf16⟩
  | .local _ .vmem, ⟨27, _⟩ => ⟨S1x1x256x896, .bf16⟩
  | .local _ .vmem, ⟨28, _⟩ => ⟨S896x2560, .f32⟩
  | .local _ .vmem, ⟨29, _⟩ => ⟨S896x2560, .f32⟩
  | .local _ .vmem, ⟨30, _⟩ => ⟨S2560x896, .fp8e4m3⟩
  | .local _ .vmem, ⟨31, _⟩ => ⟨S2560x896, .fp8e4m3⟩
  | .local _ .vmem, ⟨32, _⟩ => ⟨S896x2560, .bf16⟩
  | .local _ .vmem, ⟨33, _⟩ => ⟨S896x2560, .bf16⟩
  | .local _ .vmem, ⟨34, _⟩ => ⟨S2560x128, .f32⟩
  | .local _ .vmem, ⟨35, _⟩ => ⟨S2560x128, .f32⟩
  | .local _ .vmem, ⟨36, _⟩ => ⟨S2560x128, .bf16⟩
  | .local _ .vmem, ⟨37, _⟩ => ⟨S2560x256, .bf16⟩
  | .local _ .vmem, ⟨38, _⟩ => ⟨S2560x256, .bf16⟩
  | .local _ .vmem, ⟨39, _⟩ => ⟨S2560x256, .bf16⟩
  | .local _ .vmem, ⟨40, _⟩ => ⟨S2560x256, .bf16⟩
  | .local _ .vmem, ⟨41, _⟩ => ⟨S64x2560, .f32⟩
  | _, _ => ⟨S4x512x16x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_scratch10 : Ref sig .tc := ⟨.vmem, 40, rfl⟩
abbrev cc0_scratch11 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2560 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2560 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S896x2560 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S896x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2560 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x64x2560 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x256x896 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S896x2560 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S896x2560 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ReferenceIdeal.lean ====
abbrev S4x512x16x160 : Shape := ⟨4, ![4, 512, 16, 160]⟩
abbrev S4x512x16 : Shape := ⟨3, ![4, 512, 16]⟩
abbrev S4x512x2560 : Shape := ⟨3, ![4, 512, 2560]⟩
abbrev S4x512 : Shape := ⟨2, ![4, 512]⟩
abbrev S4x8x2x128x896 : Shape := ⟨5, ![4, 8, 2, 128, 896]⟩
abbrev S4x8x2x128 : Shape := ⟨4, ![4, 8, 2, 128]⟩
abbrev S896x2560 : Shape := ⟨2, ![896, 2560]⟩
abbrev S2560 : Shape := ⟨1, ![2560]⟩
abbrev S4x8x256x896 : Shape := ⟨4, ![4, 8, 256, 896]⟩
abbrev S4x8x256 : Shape := ⟨3, ![4, 8, 256]⟩
abbrev S1x2560 : Shape := ⟨2, ![1, 2560]⟩
abbrev S4x8x256x2560 : Shape := ⟨4, ![4, 8, 256, 2560]⟩
abbrev S4x8x256x1 : Shape := ⟨4, ![4, 8, 256, 1]⟩
abbrev S1x1x1x2560 : Shape := ⟨4, ![1, 1, 1, 2560]⟩
abbrev S4x8x256x16x160 : Shape := ⟨5, ![4, 8, 256, 16, 160]⟩
abbrev S4x449x16x160 : Shape := ⟨4, ![4, 449, 16, 160]⟩
abbrev S4x63x16x160 : Shape := ⟨4, ![4, 63, 16, 160]⟩
abbrev S4x8x64x16x160 : Shape := ⟨5, ![4, 8, 64, 16, 160]⟩
abbrev S4x449x16 : Shape := ⟨3, ![4, 449, 16]⟩
abbrev S4x63x16 : Shape := ⟨3, ![4, 63, 16]⟩
abbrev S4x8x64x16 : Shape := ⟨4, ![4, 8, 64, 16]⟩
abbrev S4x449x2560 : Shape := ⟨3, ![4, 449, 2560]⟩
abbrev S4x63x2560 : Shape := ⟨3, ![4, 63, 2560]⟩
abbrev S4x449 : Shape := ⟨2, ![4, 449]⟩
abbrev S4x63 : Shape := ⟨2, ![4, 63]⟩
abbrev S4x8x64 : Shape := ⟨3, ![4, 8, 64]⟩
abbrev S4x8x16x64x256 : Shape := ⟨5, ![4, 8, 16, 64, 256]⟩
abbrev S4x8x16x64 : Shape := ⟨4, ![4, 8, 16, 64]⟩
abbrev S_ : Shape := ⟨0, ![]⟩
abbrev S4x8x16x64x1 : Shape := ⟨5, ![4, 8, 16, 64, 1]⟩
abbrev S4x8x1x64x1 : Shape := ⟨5, ![4, 8, 1, 64, 1]⟩
abbrev S512 : Shape := ⟨1, ![512]⟩
abbrev S1x8x1x64x1 : Shape := ⟨5, ![1, 8, 1, 64, 1]⟩
abbrev S4x8x64x16x1 : Shape := ⟨5, ![4, 8, 64, 16, 1]⟩
abbrev S4x8x64x1x1 : Shape := ⟨5, ![4, 8, 64, 1, 1]⟩
abbrev S4x8x16x160x64 : Shape := ⟨5, ![4, 8, 16, 160, 64]⟩
abbrev S4x8x16x160x256 : Shape := ⟨5, ![4, 8, 16, 160, 256]⟩
abbrev S4x2048x896 : Shape := ⟨3, ![4, 2048, 896]⟩
abbrev S4x2048x2560 : Shape := ⟨3, ![4, 2048, 2560]⟩
abbrev S4x896x2560 : Shape := ⟨3, ![4, 896, 2560]⟩

abbrev nBuf : Space → Nat
  | .hbm => 148
  | .vmem => 10
  | .smem => 0
  | _ => 0

abbrev hbmTy0_0 (i : Nat) : BufTy := match i % 128 with
  | 0 => ⟨S4x512x16x160, .fp8e4m3⟩
  | 1 => ⟨S4x512x16, .f32⟩
  | 2 => ⟨S4x512x2560, .fp8e5m2⟩
  | 3 => ⟨S4x512, .f32⟩
  | 4 => ⟨S4x8x2x128x896, .fp8e4m3⟩
  | 5 => ⟨S4x8x2x128, .f32⟩
  | 6 => ⟨S896x2560, .fp8e4m3⟩
  | 7 => ⟨S896x2560, .fp8e4m3⟩
  | 8 => ⟨S2560, .f32⟩
  | 9 => ⟨S2560, .f32⟩
  | 10 => ⟨S4x512x16x160, .bf16⟩
  | 11 => ⟨S4x512x2560, .bf16⟩
  | 12 => ⟨S4x8x2x128x896, .bf16⟩
  | 13 => ⟨S896x2560, .bf16⟩
  | 14 => ⟨S896x2560, .bf16⟩
  | 15 => ⟨S4x8x256x896, .bf16⟩
  | 16 => ⟨S4x8x256, .f32⟩
  | 17 => ⟨S2560, .bf16⟩
  | 18 => ⟨S1x2560, .bf16⟩
  | 19 => ⟨S896x2560, .bf16⟩
  | 20 => ⟨S896x2560, .bf16⟩
  | 21 => ⟨S2560, .bf16⟩
  | 22 => ⟨S1x2560, .bf16⟩
  | 23 => ⟨S896x2560, .bf16⟩
  | 24 => ⟨S896x2560, .bf16⟩
  | 25 => ⟨S4x8x256x2560, .f32⟩
  | 26 => ⟨S4x8x256x1, .f32⟩
  | 27 => ⟨S4x8x256x2560, .f32⟩
  | 28 => ⟨S4x8x256x2560, .f32⟩
  | 29 => ⟨S1x1x1x2560, .f32⟩
  | 30 => ⟨S4x8x256x2560, .f32⟩
  | 31 => ⟨S4x8x256x2560, .f32⟩
  | 32 => ⟨S4x8x256x2560, .bf16⟩
  | 33 => ⟨S4x8x256x16x160, .bf16⟩
  | 34 => ⟨S4x8x256x2560, .f32⟩
  | 35 => ⟨S4x8x256x1, .f32⟩
  | 36 => ⟨S4x8x256x2560, .f32⟩
  | 37 => ⟨S4x8x256x2560, .f32⟩
  | 38 => ⟨S1x1x1x2560, .f32⟩
  | 39 => ⟨S4x8x256x2560, .f32⟩
  | 40 => ⟨S4x8x256x2560, .f32⟩
  | 41 => ⟨S4x8x256x2560, .bf16⟩
  | 42 => ⟨S4x8x256x16x160, .bf16⟩
  | 43 => ⟨S4x449x16x160, .bf16⟩
  | 44 => ⟨S4x63x16x160, .bf16⟩
  | 45 => ⟨S4x512x16x160, .bf16⟩
  | 46 => ⟨S4x8x64x16x160, .bf16⟩
  | 47 => ⟨S4x449x16, .f32⟩
  | 48 => ⟨S4x63x16, .f32⟩
  | 49 => ⟨S4x512x16, .f32⟩
  | 50 => ⟨S4x8x64x16, .f32⟩
  | 51 => ⟨S4x449x2560, .bf16⟩
  | 52 => ⟨S4x63x2560, .bf16⟩
  | 53 => ⟨S4x512x2560, .bf16⟩
  | 54 => ⟨S4x8x64x16x160, .bf16⟩
  | 55 => ⟨S4x449, .f32⟩
  | 56 => ⟨S4x63, .f32⟩
  | 57 => ⟨S4x512, .f32⟩
  | 58 => ⟨S4x8x64, .f32⟩
  | 59 => ⟨S4x8x16x64x256, .f32⟩
  | 60 => ⟨S4x8x16x64, .f32⟩
  | 61 => ⟨S_, .f32⟩
  | 62 => ⟨S4x8x16x64, .f32⟩
  | 63 => ⟨S4x8x16x64, .f32⟩
  | 64 => ⟨S4x8x16x64x1, .f32⟩
  | 65 => ⟨S4x8x16x64x256, .f32⟩
  | 66 => ⟨S4x8x16x64x256, .f32⟩
  | 67 => ⟨S_, .f32⟩
  | 68 => ⟨S4x8x16x64, .f32⟩
  | 69 => ⟨S4x8x16x64x1, .f32⟩
  | 70 => ⟨S4x8x16x64x256, .f32⟩
  | 71 => ⟨S4x8x16x64x256, .f32⟩
  | 72 => ⟨S4x8x16x64x256, .f32⟩
  | 73 => ⟨S_, .f32⟩
  | 74 => ⟨S4x8x16x64, .f32⟩
  | 75 => ⟨S4x8x16x64x1, .f32⟩
  | 76 => ⟨S4x8x16x64x256, .f32⟩
  | 77 => ⟨S4x8x16x64x256, .f32⟩
  | 78 => ⟨S4x8x16x64x256, .f32⟩
  | 79 => ⟨S4x8x1x64x1, .f32⟩
  | 80 => ⟨S4x8x16x64x256, .f32⟩
  | 81 => ⟨S4x8x16x64x256, .f32⟩
  | 82 => ⟨S4x8x16x64x256, .f32⟩
  | 83 => ⟨S_, .f32⟩
  | 84 => ⟨S4x8x16x64, .f32⟩
  | 85 => ⟨S4x8x16x64x1, .f32⟩
  | 86 => ⟨S512, .i32⟩
  | 87 => ⟨S_, .i32⟩
  | 88 => ⟨S512, .i32⟩
  | 89 => ⟨S512, .i1⟩
  | 90 => ⟨S1x8x1x64x1, .i1⟩
  | 91 => ⟨S4x8x16x64x256, .i1⟩
  | 92 => ⟨S_, .f32⟩
  | 93 => ⟨S4x8x16x64x256, .f32⟩
  | 94 => ⟨S4x8x16x64x256, .f32⟩
  | 95 => ⟨S4x8x16x64x256, .f32⟩
  | 96 => ⟨S4x8x16x64x256, .f32⟩
  | 97 => ⟨S4x8x16x64x256, .f32⟩
  | 98 => ⟨S4x8x16x64x256, .bf16⟩
  | 99 => ⟨S4x8x16x64x256, .f32⟩
  | 100 => ⟨S4x8x16x64x256, .bf16⟩
  | 101 => ⟨S4x8x64x16, .bf16⟩
  | 102 => ⟨S4x8x64x16x1, .bf16⟩
  | 103 => ⟨S4x8x64x16x160, .bf16⟩
  | 104 => ⟨S4x8x64x16x160, .bf16⟩
  | 105 => ⟨S4x8x64, .bf16⟩
  | 106 => ⟨S4x8x64x1x1, .bf16⟩
  | 107 => ⟨S4x8x64x16x160, .bf16⟩
  | 108 => ⟨S4x8x64x16x160, .bf16⟩
  | 109 => ⟨S4x8x16x160x64, .f32⟩
  | 110 => ⟨S4x8x64x16x160, .f32⟩
  | 111 => ⟨S_, .f32⟩
  | 112 => ⟨S4x8x64x16x160, .f32⟩
  | 113 => ⟨S4x8x64x16x160, .f32⟩
  | 114 => ⟨S4x8x64x16x160, .bf16⟩
  | 115 => ⟨S4x512x16x160, .bf16⟩
  | 116 => ⟨S4x63x16x160, .bf16⟩
  | 117 => ⟨S4x449x16x160, .bf16⟩
  | 118 => ⟨S4x512x16x160, .bf16⟩
  | 119 => ⟨S4x8x16x160x256, .f32⟩
  | 120 => ⟨S4x8x256x16x160, .f32⟩
  | 121 => ⟨S_, .f32⟩
  | 122 => ⟨S4x8x256x16x160, .f32⟩
  | 123 => ⟨S4x8x256x16x160, .f32⟩
  | 124 => ⟨S4x8x256x16x160, .bf16⟩
  | 125 => ⟨S4x8x16x160x256, .f32⟩
  | 126 => ⟨S4x8x256x16x160, .f32⟩
  | 127 => ⟨S4x8x256x16x160, .bf16⟩
  | _ => ⟨S4x512x16x160, .fp8e4m3⟩

abbrev hbmTy0_1 (i : Nat) : BufTy := match i % 128 with
  | 0 => ⟨S4x8x256x2560, .bf16⟩
  | 1 => ⟨S4x8x256x2560, .bf16⟩
  | 2 => ⟨S4x8x256x896, .f32⟩
  | 3 => ⟨S4x8x256x896, .f32⟩
  | 4 => ⟨S4x8x256x896, .f32⟩
  | 5 => ⟨S4x8x256x896, .bf16⟩
  | 6 => ⟨S4x8x2x128x896, .bf16⟩
  | 7 => ⟨S4x8x256, .bf16⟩
  | 8 => ⟨S4x8x256x1, .bf16⟩
  | 9 => ⟨S4x8x256x896, .bf16⟩
  | 10 => ⟨S4x8x256x896, .bf16⟩
  | 11 => ⟨S4x2048x896, .bf16⟩
  | 12 => ⟨S4x2048x2560, .bf16⟩
  | 13 => ⟨S4x896x2560, .f32⟩
  | 14 => ⟨S_, .f32⟩
  | 15 => ⟨S896x2560, .f32⟩
  | 16 => ⟨S4x2048x2560, .bf16⟩
  | 17 => ⟨S4x896x2560, .f32⟩
  | 18 => ⟨S_, .f32⟩
  | 19 => ⟨S896x2560, .f32⟩
  | _ => ⟨S4x512x16x160, .fp8e4m3⟩

abbrev hbmTy (i : Nat) : BufTy := match i / 128 with
  | 0 => hbmTy0_0 i
  | 1 => hbmTy0_1 i
  | _ => ⟨S4x512x16x160, .fp8e4m3⟩

abbrev bufTy : (tb : Table) → Fin (tcTables nBuf tb) → BufTy
  | .hbm, ⟨i, _⟩ => hbmTy i
  | .local _ .vmem, ⟨0, _⟩ => ⟨S4x512x16x160, .fp8e4m3⟩
  | .local _ .vmem, ⟨1, _⟩ => ⟨S4x512x2560, .fp8e5m2⟩
  | .local _ .vmem, ⟨2, _⟩ => ⟨S4x8x2x128x896, .fp8e4m3⟩
  | .local _ .vmem, ⟨3, _⟩ => ⟨S896x2560, .fp8e4m3⟩
  | .local _ .vmem, ⟨4, _⟩ => ⟨S896x2560, .fp8e4m3⟩
  | .local _ .vmem, ⟨5, _⟩ => ⟨S4x512x16x160, .bf16⟩
  | .local _ .vmem, ⟨6, _⟩ => ⟨S4x512x2560, .bf16⟩
  | .local _ .vmem, ⟨7, _⟩ => ⟨S4x8x2x128x896, .bf16⟩
  | .local _ .vmem, ⟨8, _⟩ => ⟨S896x2560, .bf16⟩
  | .local _ .vmem, ⟨9, _⟩ => ⟨S896x2560, .bf16⟩
  | _, _ => ⟨S4x512x16x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_0 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_1 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_2 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_3 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_4 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_5 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_cst_6 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_7 : Ref sig .tc := ⟨.hbm, 146, rfl⟩
abbrev main_v123 : Ref sig .tc := ⟨.hbm, 147, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x512x16x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x2560 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x2x128x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S896x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S896x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x16x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8x2x128x896 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S896x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S896x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KIdeal.Stages.lean ====
module

public import proofs.«01_k».proof.Proof.Gen.KernelIdeal.Skeleton
public import Idealize.ShloMosaic.Lib.VecWindow

/-! # The kernel's body as a structured program

The printed body is one straight line of loads and stores. Here the same statements are written with the loops of the
kernel kept: one definition per stage (a weight tile, a query tile, a projection, a head, the closing sums), taking the
number of the tile, of the group or of the head. `Body.lean` shows that the two programs are the same. -/

@[expose] public section

set_option maxRecDepth 16384

noncomputable section

namespace Cert.KernelIdeal.Hand

open Idealize.ShloMosaic Idealize.SL.Sem
open Cert.KernelIdeal Cert.KernelIdeal.Gen

variable {F : FTy → Type} [FloatOps F]

/-! ## The side conditions of the stages, for every tile -/

theorem inbWt (j : Fin 20) : ∀ a, (![128 * j.val, 0] : Fin 2 → ℕ) a + S128x896.size a ≤ S2560x896.size a := by
  revert j; decide

theorem packWt (j : Fin 20) : (Rect.unit (s := S2560x896) ![128 * j.val, 0] S128x896.size (inbWt j)).PackedRows (EltTy.packing .fp8e4m3) := by
  revert j; decide

theorem inbWc (j : Fin 20) : ∀ a, (![0, 128 * j.val] : Fin 2 → ℕ) a + S896x128.size a ≤ S896x2560.size a := by
  revert j; decide

theorem packWc (j : Fin 20) : (Rect.unit (s := S896x2560) ![0, 128 * j.val] S896x128.size (inbWc j)).PackedRows (EltTy.packing .bf16) := by
  revert j; decide

theorem inbWs (j : Fin 20) : ∀ a, (![0, 128 * j.val] : Fin 2 → ℕ) a + S1x128.size a ≤ S1x2560.size a := by
  revert j; decide

theorem inbSc (j : Fin 20) : ∀ a, (![128 * j.val, 0] : Fin 2 → ℕ) a + S128x128.size a ≤ S2560x128.size a := by
  revert j; decide

theorem packXt (j : Fin 20) : (Rect.unit (s := S2560x128) ![128 * j.val, 0] S128x128.size (inbSc j)).PackedRows (EltTy.packing .bf16) := by
  revert j; decide

theorem inbQ (j : Fin 20) : ∀ a, (![0, 0, 128 * j.val] : Fin 3 → ℕ) a + S1x64x128.size a ≤ S1x64x2560.size a := by
  revert j; decide

theorem inbGw (j : Fin 4) : ∀ a, (![640 * j.val, 0] : Fin 2 → ℕ) a + S640x896.size a ≤ S2560x896.size a := by
  revert j; decide

theorem inbGs (j : Fin 4) : ∀ a, (![640 * j.val, 0] : Fin 2 → ℕ) a + S640x128.size a ≤ S2560x128.size a := by
  revert j; decide

theorem inbGk (j : Fin 4) : ∀ a, (![640 * j.val, 0] : Fin 2 → ℕ) a + S640x256.size a ≤ S2560x256.size a := by
  revert j; decide

theorem packGk (j : Fin 4) : (Rect.unit (s := S2560x256) ![640 * j.val, 0] S640x256.size (inbGk j)).PackedRows (EltTy.packing .bf16) := by
  revert j; decide

theorem inbHx (j : Fin 16) : ∀ a, (![160 * j.val, 0] : Fin 2 → ℕ) a + S160x128.size a ≤ S2560x128.size a := by
  revert j; decide

theorem inbHk (j : Fin 16) : ∀ a, (![160 * j.val, 0] : Fin 2 → ℕ) a + S160x256.size a ≤ S2560x256.size a := by
  revert j; decide

theorem packHk (j : Fin 16) : (Rect.unit (s := S2560x256) ![160 * j.val, 0] S160x256.size (inbHk j)).PackedRows (EltTy.packing .bf16) := by
  revert j; decide

theorem inbGd (j : Fin 4) : ∀ a, (![0, 640 * j.val] : Fin 2 → ℕ) a + S64x640.size a ≤ S64x2560.size a := by
  revert j; decide

theorem inbGo (j : Fin 4) : ∀ a, (![0, 0, 640 * j.val] : Fin 3 → ℕ) a + S1x64x640.size a ≤ S1x64x2560.size a := by
  revert j; decide

theorem packGo (j : Fin 4) : (Rect.unit (s := S1x64x2560) ![0, 0, 640 * j.val] S1x64x640.size (inbGo j)).PackedRows (EltTy.packing .bf16) := by
  revert j; decide

theorem slQs (j : Fin 16) : S64x16.Slices ![0, j.val] S64x1 := by
  revert j; decide

theorem slQsT (j : Fin 16) : S16x64.Slices ![j.val, 0] S1x64 := by
  revert j; decide

/-! ## What the stages compute -/

/-- A tile of the weight codes, transposed. -/
def pWt (w : Vec F S896x128 .fp8e4m3) : FVec F S128x896 .fp8e4m3 :=
  have v1831 : FVec F S896x128 .bf16 := extf .bf16 w bitsLt_fp8e4m3_bf16
  have v1834 : FVec F S128x896 .bf16 := transpose S128x896 [1, 0] v1831 transposes_S896x128_p1_0_S128x896
  have v1835 : FVec F S128x896 .fp8e4m3 := truncf .fp8e4m3 v1834 bitsLt_fp8e4m3_bf16
  have v1838 : FVec F S128x896 .fp8e4m3 := shapeCast S128x896 v1835 shapeCasts_S128x896_S128x896
  v1838

/-- A tile of the weights times their scales. -/
def pWd (w : Vec F S896x128 .fp8e4m3) (s : Vec F S1x128 .f32) : FVec F S896x128 .bf16 :=
  have v1831 : FVec F S896x128 .bf16 := extf .bf16 w bitsLt_fp8e4m3_bf16
  have v1833 : FVec F S1x128 .f32 := shapeCast S1x128 s shapeCasts_S1x128_S1x128
  have v1839 : FVec F S1x128 .bf16 := truncf .bf16 v1833 bitsLt_bf16_f32
  have v1840 : FVec F S896x128 .bf16 := broadcastTo S896x128 v1839 broadcasts_S1x128_S896x128
  have v1841 : FVec F S896x128 .bf16 := mulf v1831 v1840
  have v1844 : FVec F S896x128 .bf16 := shapeCast S896x128 v1841 shapeCasts_S896x128_S896x128
  v1844

/-- A tile of the weight scales, one row per column of the weights. -/
def pSc (s : Vec F S1x128 .f32) : FVec F S128x128 .f32 :=
  have v1833 : FVec F S1x128 .f32 := shapeCast S1x128 s shapeCasts_S1x128_S1x128
  have v1845 : FVec F S1x128 .f32 := shapeCast S1x128 v1833 shapeCasts_S1x128_S1x128
  have v1846 : FVec F S128x128 .f32 := broadcastTo S128x128 v1845 broadcasts_S1x128_S128x128
  have v1847 : FVec F S128x128 .f32 := transpose S128x128 [1, 0] v1846 transposes_S128x128_p1_0_S128x128
  have v1850 : FVec F S128x128 .f32 := shapeCast S128x128 v1847 shapeCasts_S128x128_S128x128
  v1850

/-- A tile of the shifted query codes and of the shifted output gradients, transposed. -/
def pXt (q0 q1 : Vec F S1x64x128 .fp8e4m3) (d0 d1 : Vec F S1x64x128 .fp8e5m2) : FVec F S128x128 .bf16 :=
  have v426 : FVec F S64x128 .fp8e4m3 := shapeCast S64x128 q0 shapeCasts_S1x64x128_S64x128
  have v427 : FVec F S64x128 .f32 := extf .f32 v426 bitsLt_fp8e4m3_f32
  have v429 : FVec F S64x128 .fp8e4m3 := shapeCast S64x128 q1 shapeCasts_S1x64x128_S64x128
  have v430 : FVec F S64x128 .f32 := extf .f32 v429 bitsLt_fp8e4m3_f32
  have v431 : IVec S64x128 32 := iota .tc S64x128 32 [0] iota_S64x128_d0_w32
  have v432 : IVec S64x128 32 := broadcast S64x128 0#32
  have v433 : IVec S64x128 1 := cmpi .eq v431 v432
  have v434 : FVec F S64x128 .f32 := dynamicRotate 0 1#32 none v427 rotates_S64x128_d0
  have v435 : FVec F S64x128 .f32 := dynamicRotate 0 1#32 none v430 rotates_S64x128_d0
  have v436 : FVec F S64x128 .f32 := select v433 v434 v435
  have v438 : FVec F S64x128 .fp8e5m2 := shapeCast S64x128 d0 shapeCasts_S1x64x128_S64x128
  have v439 : FVec F S64x128 .f32 := extf .f32 v438 bitsLt_fp8e5m2_f32
  have v441 : FVec F S64x128 .fp8e5m2 := shapeCast S64x128 d1 shapeCasts_S1x64x128_S64x128
  have v442 : FVec F S64x128 .f32 := extf .f32 v441 bitsLt_fp8e5m2_f32
  have v443 : IVec S64x128 32 := iota .tc S64x128 32 [0] iota_S64x128_d0_w32
  have v444 : IVec S64x128 32 := broadcast S64x128 0#32
  have v445 : IVec S64x128 1 := cmpi .eq v443 v444
  have v446 : FVec F S64x128 .f32 := dynamicRotate 0 1#32 none v439 rotates_S64x128_d0
  have v447 : FVec F S64x128 .f32 := dynamicRotate 0 1#32 none v442 rotates_S64x128_d0
  have v448 : FVec F S64x128 .f32 := select v445 v446 v447
  have v449 : FVec F S128x128 .f32 := concatenate S128x128 0 [⟨S64x128, v436⟩, ⟨S64x128, v448⟩] concatenates_S64x128_S64x128_S128x128_d0
  have v450 : FVec F S128x128 .bf16 := truncf .bf16 v449 bitsLt_bf16_f32
  have v451 : FVec F S128x128 .bf16 := transpose S128x128 [1, 0] v450 transposes_S128x128_p1_0_S128x128
  have v454 : FVec F S128x128 .bf16 := shapeCast S128x128 v451 shapeCasts_S128x128_S128x128
  v454

/-- The shifted query scales. -/
def pQs (a b : Vec F S1x64x16 .f32) : FVec F S64x16 .f32 :=
  have v606 : FVec F S64x16 .f32 := shapeCast S64x16 a shapeCasts_S1x64x16_S64x16
  have v608 : FVec F S64x16 .f32 := shapeCast S64x16 b shapeCasts_S1x64x16_S64x16
  have v609 : IVec S64x16 32 := iota .tc S64x16 32 [0] iota_S64x16_d0_w32
  have v610 : IVec S64x16 32 := broadcast S64x16 0#32
  have v611 : IVec S64x16 1 := cmpi .eq v609 v610
  have v612 : FVec F S64x16 .f32 := dynamicRotate 0 1#32 none v606 rotates_S64x16_d0
  have v613 : FVec F S64x16 .f32 := dynamicRotate 0 1#32 none v608 rotates_S64x16_d0
  have v614 : FVec F S64x16 .f32 := select v611 v612 v613
  v614

/-- The shifted query scales, transposed. -/
def pQsT (v614 : FVec F S64x16 .f32) : FVec F S16x64 .f32 :=
  have v615 : FVec F S16x64 .f32 := transpose S16x64 [1, 0] v614 transposes_S64x16_p1_0_S16x64
  v615

/-- The shifted gradient scales, as a row. -/
def pDosRow (a b : Vec F S1x1x64 .f32) : FVec F S1x128 .f32 :=
  have v617 : FVec F S1x64 .f32 := shapeCast S1x64 a shapeCasts_S1x1x64_S1x64
  have v619 : FVec F S1x64 .f32 := shapeCast S1x64 b shapeCasts_S1x1x64_S1x64
  have v620 : FVec F S1x128 .f32 := concatenate S1x128 1 [⟨S1x64, v617⟩, ⟨S1x64, v619⟩] concatenates_S1x64_S1x64_S1x128_d1
  have v621 : FVec F S1x128 .f32 := dynamicRotate 1 65#32 none v620 rotates_S1x128_d1
  v621

/-- The shifted gradient scales, as a column. -/
def pDosCol (v621 : FVec F S1x128 .f32) : FVec F S64x1 .f32 :=
  have v622 : FVec F S1x128 .f32 := shapeCast S1x128 v621 shapeCasts_S1x128_S1x128
  have v623 : FVec F S128x128 .f32 := broadcastTo S128x128 v622 broadcasts_S1x128_S128x128
  have v624 : FVec F S128x128 .f32 := transpose S128x128 [1, 0] v623 transposes_S128x128_p1_0_S128x128
  have v625 : FVec F S64x1 .f32 := extractStridedSlice S64x1 ![0, 0] v624 slices_S128x128_o0_0_S64x1
  v625

/-- The scales of the two neighbours, side by side. -/
def pEs (a b : Vec F S1x1x1x128 .f32) : FVec F S1x256 .f32 :=
  have v627 : FVec F S1x128 .f32 := shapeCast S1x128 a shapeCasts_S1x1x1x128_S1x128
  have v629 : FVec F S1x128 .f32 := shapeCast S1x128 b shapeCasts_S1x1x1x128_S1x128
  have v630 : FVec F S1x256 .f32 := concatenate S1x256 1 [⟨S1x128, v627⟩, ⟨S1x128, v629⟩] concatenates_S1x128_S1x128_S1x256_d1
  v630

/-- The neighbours as a matrix. -/
def pEmb (a : Vec F S1x1x256x896 .fp8e4m3) : FVec F S256x896 .fp8e4m3 :=
  have v632 : FVec F S256x896 .fp8e4m3 := shapeCast S256x896 a shapeCasts_S1x1x256x896_S256x896
  v632

/-- Which slots of the chunk hold a token of the sequence. -/
def pLive (arg1 : BitVec 32) : IVec S64x1 1 :=
  have v633 : BitVec 32 := Scalar.muli arg1 64#32
  have v634 : IVec S64x1 32 := iota .tc S64x1 32 [0] iota_S64x1_d0_w32
  have v635 : IVec S64x1 32 := broadcast S64x1 v633
  have v636 : IVec S64x1 32 := addi v635 v634
  have v637 : IVec S64x1 32 := broadcast S64x1 449#32
  have v638 : IVec S64x1 1 := cmpi .slt v636 v637
  v638

/-- The projection of the neighbours for four heads. -/
def pProj (es : FVec F S1x256 .f32) (emb : FVec F S256x896 .fp8e4m3) (w : Vec F S640x896 .fp8e4m3) (s : Vec F S640x128 .f32) : FVec F S640x256 .bf16 :=
  have v642 : FVec F S640x256 .f32 := matmul dot_S640x896_S256x896_S640x256_1_1_0_0_n_n none w emb (constant S640x256 .f32 0x00000000#32 : FVec F S640x256 .f32)
  have v644 : FVec F S640x256 .f32 := concatenate S640x256 1 [⟨S640x128, s⟩, ⟨S640x128, s⟩] concatenates_S640x128_S640x128_S640x256_d1
  have v645 : FVec F S640x256 .f32 := broadcastTo S640x256 es broadcasts_S1x256_S640x256
  have v646 : FVec F S640x256 .f32 := mulf v642 v645
  have v647 : FVec F S640x256 .f32 := mulf v646 v644
  have v648 : FVec F S640x256 .bf16 := truncf .bf16 v647 bitsLt_bf16_f32
  have v651 : FVec F S640x256 .bf16 := shapeCast S640x256 v648 shapeCasts_S640x256_S640x256
  v651

/-- A block of zeros. -/
def pZ  : FVec F S64x256 .bf16 :=
  have v639 : FVec F S64x256 .bf16 := broadcast S64x256 (Scalar.ofBits .bf16 0x0000#16 : F .bf16)
  v639

/-- The attention weights of a head. -/
def pP (h : Fin 16) (qs : FVec F S64x16 .f32) (x : Vec F S160x128 .bf16) (k : Vec F S160x256 .bf16) : FVec F S64x256 .f32 :=
  have v664 : FVec F S128x160 .bf16 := transpose S128x160 [1, 0] x transposes_S160x128_p1_0_S128x160
  have v667 : FVec F S64x160 .bf16 := extractStridedSlice S64x160 ![0, 0] v664 slices_S128x160_o0_0_S64x160
  have v668 : FVec F S64x256 .f32 := matmul dot_S64x160_S160x256_S64x256_1_0_0_1_n_n none v667 k (constant S64x256 .f32 0x00000000#32 : FVec F S64x256 .f32)
  have v669 : FVec F S64x1 .f32 := extractStridedSlice S64x1 ![0, h.val] qs (slQs h)
  have v670 : FVec F S64x1 .f32 := broadcast S64x1 (Scalar.ofBits .f32 0x3DA1E89B#32 : F .f32)
  have v671 : FVec F S64x1 .f32 := mulf v670 v669
  have v672 : FVec F S64x256 .f32 := broadcastTo S64x256 v671 broadcasts_S64x1_S64x256
  have v673 : FVec F S64x256 .f32 := mulf v668 v672
  have v674 : FVec F S64 .f32 := multiReduction .maximumf [1] S64 v673 0xFF800000#32 reduces_S64x256_S64 (.inl rfl) rfl
  have v675 : FVec F S64x1 .f32 := shapeCast S64x1 v674 shapeCasts_S64_S64x1
  have v676 : FVec F S64x256 .f32 := broadcastTo S64x256 v675 broadcasts_S64x1_S64x256
  have v677 : FVec F S64x256 .f32 := subf v673 v676
  have v678 : FVec F S64x256 .f32 := exp v677
  have v679 : FVec F S64 .f32 := multiReduction .add [1] S64 v678 0x00000000#32 reduces_S64x256_S64 (.inl rfl) rfl
  have v680 : FVec F S64x1 .f32 := shapeCast S64x1 v679 shapeCasts_S64_S64x1
  have v681 : FVec F S64x256 .f32 := broadcastTo S64x256 v680 broadcasts_S64x1_S64x256
  have v682 : FVec F S64x256 .f32 := divf v678 v681
  v682

/-- The gradients of the attention weights of a head. -/
def pDp (dosC : FVec F S64x1 .f32) (x : Vec F S160x128 .bf16) (v : Vec F S160x256 .bf16) : FVec F S64x256 .f32 :=
  have v664 : FVec F S128x160 .bf16 := transpose S128x160 [1, 0] x transposes_S160x128_p1_0_S128x160
  have v683 : FVec F S64x160 .bf16 := extractStridedSlice S64x160 ![64, 0] v664 slices_S128x160_o64_0_S64x160
  have v684 : FVec F S64x256 .f32 := matmul dot_S64x160_S160x256_S64x256_1_0_0_1_n_n none v683 v (constant S64x256 .f32 0x00000000#32 : FVec F S64x256 .f32)
  have v685 : FVec F S64x256 .f32 := broadcastTo S64x256 dosC broadcasts_S64x1_S64x256
  have v686 : FVec F S64x256 .f32 := mulf v684 v685
  v686

/-- The gradients of the scores of a head, zero on the slots that hold no token. -/
def pDs (live : IVec S64x1 1) (v682 : FVec F S64x256 .f32) (v686 : FVec F S64x256 .f32) : FVec F S64x256 .bf16 :=
  have v687 : FVec F S64x256 .f32 := mulf v682 v686
  have v688 : FVec F S64 .f32 := multiReduction .add [1] S64 v687 0x00000000#32 reduces_S64x256_S64 (.inl rfl) rfl
  have v689 : FVec F S64x1 .f32 := shapeCast S64x1 v688 shapeCasts_S64_S64x1
  have v690 : FVec F S64x256 .f32 := broadcastTo S64x256 v689 broadcasts_S64x1_S64x256
  have v691 : FVec F S64x256 .f32 := subf v686 v690
  have v692 : FVec F S64x256 .f32 := mulf v682 v691
  have v693 : IVec S64x1 1 := shapeCast S64x1 live shapeCasts_S64x1_S64x1
  have v694 : IVec S64x256 1 := broadcastTo S64x256 v693 broadcasts_S64x1_S64x256
  have v695 : FVec F S64x256 .f32 := broadcast S64x256 (Scalar.ofBits .f32 0x00000000#32 : F .f32)
  have v696 : FVec F S64x256 .f32 := select v694 v692 v695
  have v697 : FVec F S64x256 .bf16 := truncf .bf16 v696 bitsLt_bf16_f32
  v697

/-- The attention weights of a head, zero on the slots that hold no token. -/
def pPb (live : IVec S64x1 1) (v682 : FVec F S64x256 .f32) : FVec F S64x256 .bf16 :=
  have v698 : IVec S64x1 1 := shapeCast S64x1 live shapeCasts_S64x1_S64x1
  have v699 : IVec S64x256 1 := broadcastTo S64x256 v698 broadcasts_S64x1_S64x256
  have v700 : FVec F S64x256 .f32 := broadcast S64x256 (Scalar.ofBits .f32 0x00000000#32 : F .f32)
  have v701 : FVec F S64x256 .f32 := select v699 v682 v700
  have v702 : FVec F S64x256 .bf16 := truncf .bf16 v701 bitsLt_bf16_f32
  v702

/-- The queries and the output gradients of a head times their scales. -/
def pXd (h : Fin 16) (qsT : FVec F S16x64 .f32) (dosR : FVec F S1x128 .f32) (x : Vec F S160x128 .bf16) : FVec F S160x128 .bf16 :=
  have v703 : FVec F S1x64 .f32 := extractStridedSlice S1x64 ![h.val, 0] qsT (slQsT h)
  have v704 : FVec F S1x64 .f32 := extractStridedSlice S1x64 ![0, 0] dosR slices_S1x128_o0_0_S1x64
  have v705 : FVec F S1x128 .f32 := concatenate S1x128 1 [⟨S1x64, v703⟩, ⟨S1x64, v704⟩] concatenates_S1x64_S1x64_S1x128_d1
  have v706 : FVec F S1x128 .bf16 := truncf .bf16 v705 bitsLt_bf16_f32
  have v707 : FVec F S160x128 .bf16 := broadcastTo S160x128 v706 broadcasts_S1x128_S160x128
  have v708 : FVec F S160x128 .bf16 := mulf x v707
  v708

/-- The gradient of the keys of a head. -/
def pDkOf (z : FVec F S64x256 .bf16) (v697 : FVec F S64x256 .bf16) (v708 : FVec F S160x128 .bf16) : FVec F S160x256 .bf16 :=
  have v709 : FVec F S128x256 .bf16 := concatenate S128x256 0 [⟨S64x256, v697⟩, ⟨S64x256, z⟩] concatenates_S64x256_S64x256_S128x256_d0
  have v710 : FVec F S160x256 .f32 := matmul dot_S160x128_S128x256_S160x256_1_0_0_1_n_n none v708 v709 (constant S160x256 .f32 0x00000000#32 : FVec F S160x256 .f32)
  have v711 : FVec F S160x256 .f32 := broadcast S160x256 (Scalar.ofBits .f32 0x3DA1E89B#32 : F .f32)
  have v712 : FVec F S160x256 .f32 := mulf v711 v710
  have v713 : FVec F S160x256 .bf16 := truncf .bf16 v712 bitsLt_bf16_f32
  have v716 : FVec F S160x256 .bf16 := shapeCast S160x256 v713 shapeCasts_S160x256_S160x256
  v716

/-- The gradient of the values of a head. -/
def pDvOf (z : FVec F S64x256 .bf16) (v702 : FVec F S64x256 .bf16) (v708 : FVec F S160x128 .bf16) : FVec F S160x256 .bf16 :=
  have v717 : FVec F S128x256 .bf16 := concatenate S128x256 0 [⟨S64x256, z⟩, ⟨S64x256, v702⟩] concatenates_S64x256_S64x256_S128x256_d0
  have v718 : FVec F S160x256 .f32 := matmul dot_S160x128_S128x256_S160x256_1_0_0_1_n_n none v708 v717 (constant S160x256 .f32 0x00000000#32 : FVec F S160x256 .f32)
  have v719 : FVec F S160x256 .bf16 := truncf .bf16 v718 bitsLt_bf16_f32
  have v722 : FVec F S160x256 .bf16 := shapeCast S160x256 v719 shapeCasts_S160x256_S160x256
  v722

/-- The gradient of the queries of a head. -/
def pDqOf (v697 : FVec F S64x256 .bf16) (k : Vec F S160x256 .bf16) : FVec F S64x160 .f32 :=
  have v723 : FVec F S64x160 .f32 := matmul dot_S64x256_S160x256_S64x160_1_1_0_0_n_n none v697 k (constant S64x160 .f32 0x00000000#32 : FVec F S64x160 .f32)
  have v724 : FVec F S64x160 .f32 := broadcast S64x160 (Scalar.ofBits .f32 0x3DA1E89B#32 : F .f32)
  have v725 : FVec F S64x160 .f32 := mulf v724 v723
  v725

/-- The gradients of the queries of four heads, moved back by one slot. -/
def pRoll (v725 v788 v851 v914 : FVec F S64x160 .f32) : FVec F S64x640 .f32 :=
  have v915 : FVec F S64x640 .f32 := concatenate S64x640 1 [⟨S64x160, v725⟩, ⟨S64x160, v788⟩, ⟨S64x160, v851⟩, ⟨S64x160, v914⟩] concatenates_S64x160_S64x160_S64x160_S64x160_S64x640_d1
  have v916 : FVec F S64x640 .f32 := dynamicRotate 0 63#32 none v915 rotates_S64x640_d0
  v916

/-- What is stored of the gradient of the queries: the last row is this chunk's, the others the chunk before's. -/
def pDqOut (arg1 : BitVec 32) (v916 : FVec F S64x640 .f32) (v918 : Vec F S64x640 .f32) : FVec F S1x64x640 .bf16 :=
  have v917 : BitVec 1 := Scalar.cmpi .eq arg1 0#32
  have v919 : FVec F S64x640 .f32 := broadcast S64x640 (Scalar.ofBits .f32 0x00000000#32 : F .f32)
  have v920 : FVec F S64x640 .f32 := Scalar.select v917 v919 v918
  have v640 : IVec S64x640 32 := iota .tc S64x640 32 [0] iota_S64x640_d0_w32
  have v921 : IVec S64x640 32 := broadcast S64x640 63#32
  have v922 : IVec S64x640 1 := cmpi .eq v640 v921
  have v923 : FVec F S64x640 .f32 := select v922 v916 v920
  have v924 : FVec F S64x640 .bf16 := truncf .bf16 v923 bitsLt_bf16_f32
  have v927 : FVec F S1x64x640 .bf16 := shapeCast S1x64x640 v924 shapeCasts_S64x640_S1x64x640
  v927

/-- What is carried of the gradient of the queries. -/
def pCarry (v916 : FVec F S64x640 .f32) : FVec F S64x640 .f32 :=
  have v930 : FVec F S64x640 .f32 := shapeCast S64x640 v916 shapeCasts_S64x640_S64x640
  v930

/-- The gradient of the neighbours. -/
def pDemb (v1801 : Vec F S896x2560 .bf16) (v1802 : Vec F S2560x256 .bf16) (v1804 : Vec F S896x2560 .bf16) (v1805 : Vec F S2560x256 .bf16) : FVec F S1x1x256x896 .bf16 :=
  have v1803 : FVec F S896x256 .f32 := matmul dot_S896x2560_S2560x256_S896x256_1_0_0_1_n_n none v1801 v1802 (constant S896x256 .f32 0x00000000#32 : FVec F S896x256 .f32)
  have v1806 : FVec F S896x256 .f32 := matmul dot_S896x2560_S2560x256_S896x256_1_0_0_1_n_n none v1804 v1805 (constant S896x256 .f32 0x00000000#32 : FVec F S896x256 .f32)
  have v1807 : FVec F S896x256 .f32 := addf v1803 v1806
  have v1808 : FVec F S896x256 .bf16 := truncf .bf16 v1807 bitsLt_bf16_f32
  have v1809 : FVec F S256x896 .bf16 := transpose S256x896 [1, 0] v1808 transposes_S896x256_p1_0_S256x896
  have v1812 : FVec F S1x1x256x896 .bf16 := shapeCast S1x1x256x896 v1809 shapeCasts_S256x896_S1x1x256x896
  v1812

/-- The neighbours times their scales, transposed. -/
def pEd (v630 : FVec F S1x256 .f32) (v632 : FVec F S256x896 .fp8e4m3) : FVec F S896x256 .bf16 :=
  have v1813 : FVec F S256x896 .bf16 := extf .bf16 v632 bitsLt_fp8e4m3_bf16
  have v1814 : FVec F S896x256 .bf16 := transpose S896x256 [1, 0] v1813 transposes_S256x896_p1_0_S896x256
  have v1815 : FVec F S1x256 .bf16 := truncf .bf16 v630 bitsLt_bf16_f32
  have v1816 : FVec F S896x256 .bf16 := broadcastTo S896x256 v1815 broadcasts_S1x256_S896x256
  have v1817 : FVec F S896x256 .bf16 := mulf v1814 v1816
  v1817

/-- The gradient of a weight matrix, added to what was there. -/
def pDw (v1817 : FVec F S896x256 .bf16) (v1818 : Vec F S896x2560 .f32) (v1820 : Vec F S2560x256 .bf16) : FVec F S896x2560 .f32 :=
  have v1819 : FVec F S896x2560 .f32 := shapeCast S896x2560 v1818 shapeCasts_S896x2560_S896x2560
  have v1821 : FVec F S896x2560 .f32 := matmul dot_S896x256_S2560x256_S896x2560_1_1_0_0_n_n none v1817 v1820 (constant S896x2560 .f32 0x00000000#32 : FVec F S896x2560 .f32)
  have v1822 : FVec F S896x2560 .f32 := addf v1819 v1821
  v1822

/-- A matrix of zeros. -/
def pZero : FVec F S896x2560 .f32 := broadcast S896x2560 (Scalar.ofBits .f32 0x00000000#32)

/-- The gradient of the keys of a head from what it loads. -/
def hDk (h : Fin 16) (qs : FVec F S64x16 .f32) (dosR : FVec F S1x128 .f32) (live : IVec S64x1 1) (x : Vec F S160x128 .bf16) (k v : Vec F S160x256 .bf16) : FVec F S160x256 .bf16 :=
  pDkOf pZ (pDs live (pP h qs x k) (pDp (pDosCol dosR) x v)) (pXd h (pQsT qs) dosR x)

/-- The gradient of the values of a head from what it loads. -/
def hDv (h : Fin 16) (qs : FVec F S64x16 .f32) (dosR : FVec F S1x128 .f32) (live : IVec S64x1 1) (x : Vec F S160x128 .bf16) (k v : Vec F S160x256 .bf16) : FVec F S160x256 .bf16 :=
  pDvOf pZ (pPb live (pP h qs x k)) (pXd h (pQsT qs) dosR x)

/-- The gradient of the queries of a head from what it loads. -/
def hDq (h : Fin 16) (qs : FVec F S64x16 .f32) (dosR : FVec F S1x128 .f32) (live : IVec S64x1 1) (x : Vec F S160x128 .bf16) (k v : Vec F S160x256 .bf16) : FVec F S64x160 .f32 :=
  pDqOf (pDs live (pP h qs x k) (pDp (pDosCol dosR) x v)) k

/-! ## The stages -/

/-- The programs of the kernel's thread. -/
abbrev P (F : FTy → Type) (α : Type) : Type 1 := Prog (TpuEff nD τ sig (Elt F) Λ₀ .tc) α

/-- `f 0`, `f 1`, … in turn. -/
def iter : (n : ℕ) → (Fin n → P F PUnit) → P F PUnit
  | 0, _ => pure ⟨⟩
  | n + 1, f => f 0 >>= fun _ => iter n fun i => f i.succ

/-- One tile of the weights laid out for the other points: the codes transposed, the weights times their scales, the scales. -/
def initTile (wc : Memref sig .tc .vmem S896x2560 .fp8e4m3) (ws : Memref sig .tc .vmem S1x2560 .f32) (wt : Memref sig .tc .vmem S2560x896 .fp8e4m3) (hwt : wt.IsWhole) (wd : Memref sig .tc .vmem S896x2560 .bf16) (hwd : wd.IsWhole) (sc : Memref sig .tc .vmem S2560x128 .f32) (j : Fin 20) : P F PUnit := do
  let w ← Prog.lift (.load wc (Rect.unit (s := S896x2560) ![0, 128 * j.val] S896x128.size (inbWc j)).toLoadRect (View.loadsAt_vmem h_S896x128))
  let s ← Prog.lift (.load ws (Rect.unit (s := S1x2560) ![0, 128 * j.val] S1x128.size (inbWs j)).toLoadRect (View.loadsAt_vmem h_S1x128))
  let _ ← Prog.lift (.load wt (Rect.unit (s := S2560x896) ![128 * j.val, 0] S128x896.size (inbWt j)).toLoadRect (View.loadsAt_vmem h_S128x896))
  Prog.lift (.store wt (Rect.unit (s := S2560x896) ![128 * j.val, 0] S128x896.size (inbWt j)) (pWt w) Finset.univ (View.stores_vmem h_S128x896 (hwt.storeExact_slice rfl _ (packWt j)) (fun _ => rfl)) (.inl rfl))
  let _ ← Prog.lift (.load wd (Rect.unit (s := S896x2560) ![0, 128 * j.val] S896x128.size (inbWc j)).toLoadRect (View.loadsAt_vmem h_S896x128))
  Prog.lift (.store wd (Rect.unit (s := S896x2560) ![0, 128 * j.val] S896x128.size (inbWc j)) (pWd w s) Finset.univ (View.stores_vmem h_S896x128 (hwd.storeExact_slice rfl _ (packWc j)) (fun _ => rfl)) (.inl rfl))
  let _ ← Prog.lift (.load sc (Rect.unit (s := S2560x128) ![128 * j.val, 0] S128x128.size (inbSc j)).toLoadRect (View.loadsAt_vmem h_S128x128))
  Prog.lift (.store sc (Rect.unit (s := S2560x128) ![128 * j.val, 0] S128x128.size (inbSc j)) (pSc s) Finset.univ (View.stores_vmem_bits_univ h_S128x128 rfl) (.inl rfl))

/-- A weight gradient set to zero. -/
def zeroTile (dw : Memref sig .tc .vmem S896x2560 .f32) : P F PUnit := do
  let _ ← Prog.lift (.load dw (Rect.unit (s := S896x2560) ![0, 0] S896x2560.size inb_S896x2560_S896x2560_0_0).toLoadRect (View.loadsAt_vmem h_S896x2560))
  Prog.lift (.store dw (Rect.unit (s := S896x2560) ![0, 0] S896x2560.size inb_S896x2560_S896x2560_0_0) pZero Finset.univ (View.stores_vmem_bits_univ h_S896x2560 rfl) (.inl rfl))

/-- One tile of the shifted queries and output gradients. -/
def xtTile (q0 : Memref sig .tc .vmem S1x64x2560 .fp8e4m3) (q1 : Memref sig .tc .vmem S1x64x2560 .fp8e4m3) (d0 : Memref sig .tc .vmem S1x64x2560 .fp8e5m2) (d1 : Memref sig .tc .vmem S1x64x2560 .fp8e5m2) (xt : Memref sig .tc .vmem S2560x128 .bf16) (hxt : xt.IsWhole) (j : Fin 20) : P F PUnit := do
  let a ← Prog.lift (.load q0 (Rect.unit (s := S1x64x2560) ![0, 0, 128 * j.val] S1x64x128.size (inbQ j)).toLoadRect (View.loadsAt_vmem h_S1x64x128))
  let b ← Prog.lift (.load q1 (Rect.unit (s := S1x64x2560) ![0, 0, 128 * j.val] S1x64x128.size (inbQ j)).toLoadRect (View.loadsAt_vmem h_S1x64x128))
  let c ← Prog.lift (.load d0 (Rect.unit (s := S1x64x2560) ![0, 0, 128 * j.val] S1x64x128.size (inbQ j)).toLoadRect (View.loadsAt_vmem h_S1x64x128))
  let d ← Prog.lift (.load d1 (Rect.unit (s := S1x64x2560) ![0, 0, 128 * j.val] S1x64x128.size (inbQ j)).toLoadRect (View.loadsAt_vmem h_S1x64x128))
  let _ ← Prog.lift (.load xt (Rect.unit (s := S2560x128) ![128 * j.val, 0] S128x128.size (inbSc j)).toLoadRect (View.loadsAt_vmem h_S128x128))
  Prog.lift (.store xt (Rect.unit (s := S2560x128) ![128 * j.val, 0] S128x128.size (inbSc j)) (pXt a b c d) Finset.univ (View.stores_vmem h_S128x128 (hxt.storeExact_slice rfl _ (packXt j)) (fun _ => rfl)) (.inl rfl))

/-- The projection of the neighbours for the four heads of a group. -/
def projStage (wt : Memref sig .tc .vmem S2560x896 .fp8e4m3) (sc : Memref sig .tc .vmem S2560x128 .f32) (kt : Memref sig .tc .vmem S2560x256 .bf16) (hkt : kt.IsWhole) (es : FVec F S1x256 .f32) (emb : FVec F S256x896 .fp8e4m3) (g : Fin 4) : P F PUnit := do
  let w ← Prog.lift (.load wt (Rect.unit (s := S2560x896) ![640 * g.val, 0] S640x896.size (inbGw g)).toLoadRect (View.loadsAt_vmem h_S640x896))
  let s ← Prog.lift (.load sc (Rect.unit (s := S2560x128) ![640 * g.val, 0] S640x128.size (inbGs g)).toLoadRect (View.loadsAt_vmem h_S640x128))
  let _ ← Prog.lift (.load kt (Rect.unit (s := S2560x256) ![640 * g.val, 0] S640x256.size (inbGk g)).toLoadRect (View.loadsAt_vmem h_S640x256))
  Prog.lift (.store kt (Rect.unit (s := S2560x256) ![640 * g.val, 0] S640x256.size (inbGk g)) (pProj es emb w s) Finset.univ (View.stores_vmem h_S640x256 (hkt.storeExact_slice rfl _ (packGk g)) (fun _ => rfl)) (.inl rfl))

/-- One head: the gradients of its keys and values are stored, the one of its queries is returned. -/
def headStage (xt : Memref sig .tc .vmem S2560x128 .bf16) (kt : Memref sig .tc .vmem S2560x256 .bf16) (vt : Memref sig .tc .vmem S2560x256 .bf16) (dkt : Memref sig .tc .vmem S2560x256 .bf16) (hdkt : dkt.IsWhole) (dvt : Memref sig .tc .vmem S2560x256 .bf16) (hdvt : dvt.IsWhole) (qs : FVec F S64x16 .f32) (dosR : FVec F S1x128 .f32) (live : IVec S64x1 1) (h : Fin 16) : P F (FVec F S64x160 .f32) := do
  let x ← Prog.lift (.load xt (Rect.unit (s := S2560x128) ![160 * h.val, 0] S160x128.size (inbHx h)).toLoadRect (View.loadsAt_vmem h_S160x128))
  let k ← Prog.lift (.load kt (Rect.unit (s := S2560x256) ![160 * h.val, 0] S160x256.size (inbHk h)).toLoadRect (View.loadsAt_vmem h_S160x256))
  let v ← Prog.lift (.load vt (Rect.unit (s := S2560x256) ![160 * h.val, 0] S160x256.size (inbHk h)).toLoadRect (View.loadsAt_vmem h_S160x256))
  let _ ← Prog.lift (.load dkt (Rect.unit (s := S2560x256) ![160 * h.val, 0] S160x256.size (inbHk h)).toLoadRect (View.loadsAt_vmem h_S160x256))
  Prog.lift (.store dkt (Rect.unit (s := S2560x256) ![160 * h.val, 0] S160x256.size (inbHk h)) (hDk h qs dosR live x k v) Finset.univ (View.stores_vmem h_S160x256 (hdkt.storeExact_slice rfl _ (packHk h)) (fun _ => rfl)) (.inl rfl))
  let _ ← Prog.lift (.load dvt (Rect.unit (s := S2560x256) ![160 * h.val, 0] S160x256.size (inbHk h)).toLoadRect (View.loadsAt_vmem h_S160x256))
  Prog.lift (.store dvt (Rect.unit (s := S2560x256) ![160 * h.val, 0] S160x256.size (inbHk h)) (hDv h qs dosR live x k v) Finset.univ (View.stores_vmem h_S160x256 (hdvt.storeExact_slice rfl _ (packHk h)) (fun _ => rfl)) (.inl rfl))
  pure (hDq h qs dosR live x k v)

/-- The gradient of the queries of the four heads of a group: what is complete is stored, the rest carried. -/
def dqStage (dq : Memref sig .tc .vmem S1x64x2560 .bf16) (hdq : dq.IsWhole) (car : Memref sig .tc .vmem S64x2560 .f32) (u : BitVec 32) (a b c d : FVec F S64x160 .f32) (g : Fin 4) : P F PUnit := do
  let o ← Prog.lift (.load car (Rect.unit (s := S64x2560) ![0, 640 * g.val] S64x640.size (inbGd g)).toLoadRect (View.loadsAt_vmem h_S64x640))
  let _ ← Prog.lift (.load dq (Rect.unit (s := S1x64x2560) ![0, 0, 640 * g.val] S1x64x640.size (inbGo g)).toLoadRect (View.loadsAt_vmem h_S1x64x640))
  Prog.lift (.store dq (Rect.unit (s := S1x64x2560) ![0, 0, 640 * g.val] S1x64x640.size (inbGo g)) (pDqOut u (pRoll a b c d) o) Finset.univ (View.stores_vmem h_S1x64x640 (hdq.storeExact_slice rfl _ (packGo g)) (fun _ => rfl)) (.inl rfl))
  let _ ← Prog.lift (.load car (Rect.unit (s := S64x2560) ![0, 640 * g.val] S64x640.size (inbGd g)).toLoadRect (View.loadsAt_vmem h_S64x640))
  Prog.lift (.store car (Rect.unit (s := S64x2560) ![0, 640 * g.val] S64x640.size (inbGd g)) (pCarry (pRoll a b c d)) Finset.univ (View.stores_vmem_bits_univ h_S64x640 rfl) (.inl rfl))

/-- The heads of a group. -/
def hd (g : Fin 4) (k : Fin 4) : Fin 16 := ⟨4 * g.val + k.val, by omega⟩

/-- Four heads. -/
def groupStage (wkt : Memref sig .tc .vmem S2560x896 .fp8e4m3) (wvt : Memref sig .tc .vmem S2560x896 .fp8e4m3) (wks : Memref sig .tc .vmem S2560x128 .f32) (wvs : Memref sig .tc .vmem S2560x128 .f32) (xt : Memref sig .tc .vmem S2560x128 .bf16) (kt : Memref sig .tc .vmem S2560x256 .bf16) (hkt : kt.IsWhole) (vt : Memref sig .tc .vmem S2560x256 .bf16) (hvt : vt.IsWhole) (dkt : Memref sig .tc .vmem S2560x256 .bf16) (hdkt : dkt.IsWhole) (dvt : Memref sig .tc .vmem S2560x256 .bf16) (hdvt : dvt.IsWhole) (dq : Memref sig .tc .vmem S1x64x2560 .bf16) (hdq : dq.IsWhole) (car : Memref sig .tc .vmem S64x2560 .f32) (u : BitVec 32) (es : FVec F S1x256 .f32) (emb : FVec F S256x896 .fp8e4m3) (qs : FVec F S64x16 .f32) (dosR : FVec F S1x128 .f32) (g : Fin 4) : P F PUnit := do
  projStage wkt wks kt hkt es emb g
  projStage wvt wvs vt hvt es emb g
  let a ← headStage xt kt vt dkt hdkt dvt hdvt qs dosR (pLive u) (hd g 0)
  let b ← headStage xt kt vt dkt hdkt dvt hdvt qs dosR (pLive u) (hd g 1)
  let c ← headStage xt kt vt dkt hdkt dvt hdvt qs dosR (pLive u) (hd g 2)
  let d ← headStage xt kt vt dkt hdkt dvt hdvt qs dosR (pLive u) (hd g 3)
  dqStage dq hdq car u a b c d g

/-- The gradient of the neighbours. -/
def dembStage (wkd : Memref sig .tc .vmem S896x2560 .bf16) (wvd : Memref sig .tc .vmem S896x2560 .bf16) (dkt : Memref sig .tc .vmem S2560x256 .bf16) (dvt : Memref sig .tc .vmem S2560x256 .bf16) (de : Memref sig .tc .vmem S1x1x256x896 .bf16) (hde : de.IsWhole) : P F PUnit := do
  let a ← Prog.lift (.load wkd (Rect.unit (s := S896x2560) ![0, 0] S896x2560.size inb_S896x2560_S896x2560_0_0).toLoadRect (View.loadsAt_vmem h_S896x2560))
  let b ← Prog.lift (.load dkt (Rect.unit (s := S2560x256) ![0, 0] S2560x256.size inb_S2560x256_S2560x256_0_0).toLoadRect (View.loadsAt_vmem h_S2560x256))
  let c ← Prog.lift (.load wvd (Rect.unit (s := S896x2560) ![0, 0] S896x2560.size inb_S896x2560_S896x2560_0_0).toLoadRect (View.loadsAt_vmem h_S896x2560))
  let d ← Prog.lift (.load dvt (Rect.unit (s := S2560x256) ![0, 0] S2560x256.size inb_S2560x256_S2560x256_0_0).toLoadRect (View.loadsAt_vmem h_S2560x256))
  let _ ← Prog.lift (.load de (Rect.unit (s := S1x1x256x896) ![0, 0, 0, 0] S1x1x256x896.size inb_S1x1x256x896_S1x1x256x896_0_0_0_0).toLoadRect (View.loadsAt_vmem h_S1x1x256x896))
  Prog.lift (.store de (Rect.unit (s := S1x1x256x896) ![0, 0, 0, 0] S1x1x256x896.size inb_S1x1x256x896_S1x1x256x896_0_0_0_0) (pDemb a b c d) Finset.univ (View.stores_vmem h_S1x1x256x896 (hde.storeExact_slice rfl _ (packedbf16_S1x1x256x896_S1x1x256x896_0_0_0_0)) (fun _ => rfl)) (.inl rfl))

/-- The gradient of a weight matrix: this chunk's part is added. -/
def dwStage (dt : Memref sig .tc .vmem S2560x256 .bf16) (dw : Memref sig .tc .vmem S896x2560 .f32) (ed : FVec F S896x256 .bf16) : P F PUnit := do
  let a ← Prog.lift (.load dw (Rect.unit (s := S896x2560) ![0, 0] S896x2560.size inb_S896x2560_S896x2560_0_0).toLoadRect (View.loadsAt_vmem h_S896x2560))
  let b ← Prog.lift (.load dt (Rect.unit (s := S2560x256) ![0, 0] S2560x256.size inb_S2560x256_S2560x256_0_0).toLoadRect (View.loadsAt_vmem h_S2560x256))
  let _ ← Prog.lift (.load dw (Rect.unit (s := S896x2560) ![0, 0] S896x2560.size inb_S896x2560_S896x2560_0_0).toLoadRect (View.loadsAt_vmem h_S896x2560))
  Prog.lift (.store dw (Rect.unit (s := S896x2560) ![0, 0] S896x2560.size inb_S896x2560_S896x2560_0_0) (pDw ed a b) Finset.univ (View.stores_vmem_bits_univ h_S896x2560 rfl) (.inl rfl))

/-- What only the first point does: the weights are laid out, the weight gradients set to zero. -/
def initStage (i : grid0.Coords) (arg2 : Memref sig .tc .vmem S1x1x256x896 .fp8e4m3) (harg2 : arg2.IsWhole) (arg3 : Memref sig .tc .vmem S1x1x2x128 .f32) (harg3 : arg3.IsWhole) (arg4 : Memref sig .tc .vmem S1x64x2560 .fp8e4m3) (harg4 : arg4.IsWhole) (arg5 : Memref sig .tc .vmem S1x64x2560 .fp8e4m3) (harg5 : arg5.IsWhole) (arg6 : Memref sig .tc .vmem S1x64x2560 .fp8e5m2) (harg6 : arg6.IsWhole) (arg7 : Memref sig .tc .vmem S1x64x2560 .fp8e5m2) (harg7 : arg7.IsWhole) (arg8 : Memref sig .tc .vmem S1x64x16 .f32) (harg8 : arg8.IsWhole) (arg9 : Memref sig .tc .vmem S1x64x16 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S896x2560 .fp8e4m3) (harg12 : arg12.IsWhole) (arg13 : Memref sig .tc .vmem S896x2560 .fp8e4m3) (harg13 : arg13.IsWhole) (arg14 : Memref sig .tc .vmem S1x2560 .f32) (harg14 : arg14.IsWhole) (arg15 : Memref sig .tc .vmem S1x2560 .f32) (harg15 : arg15.IsWhole) (arg16 : Memref sig .tc .vmem S1x64x2560 .bf16) (harg16 : arg16.IsWhole) (arg17 : Memref sig .tc .vmem S1x1x256x896 .bf16) (harg17 : arg17.IsWhole) (arg18 : Memref sig .tc .vmem S896x2560 .f32) (harg18 : arg18.IsWhole) (arg19 : Memref sig .tc .vmem S896x2560 .f32) (harg19 : arg19.IsWhole) (arg20 : Memref sig .tc .vmem S2560x896 .fp8e4m3) (harg20 : arg20.IsWhole) (arg21 : Memref sig .tc .vmem S2560x896 .fp8e4m3) (harg21 : arg21.IsWhole) (arg22 : Memref sig .tc .vmem S896x2560 .bf16) (harg22 : arg22.IsWhole) (arg23 : Memref sig .tc .vmem S896x2560 .bf16) (harg23 : arg23.IsWhole) (arg24 : Memref sig .tc .vmem S2560x128 .f32) (harg24 : arg24.IsWhole) (arg25 : Memref sig .tc .vmem S2560x128 .f32) (harg25 : arg25.IsWhole) (arg26 : Memref sig .tc .vmem S2560x128 .bf16) (harg26 : arg26.IsWhole) (arg27 : Memref sig .tc .vmem S2560x256 .bf16) (harg27 : arg27.IsWhole) (arg28 : Memref sig .tc .vmem S2560x256 .bf16) (harg28 : arg28.IsWhole) (arg29 : Memref sig .tc .vmem S2560x256 .bf16) (harg29 : arg29.IsWhole) (arg30 : Memref sig .tc .vmem S2560x256 .bf16) (harg30 : arg30.IsWhole) (arg31 : Memref sig .tc .vmem S64x2560 .f32) (harg31 : arg31.IsWhole) : P F PUnit := do
  iter 20 (initTile arg12 arg14 arg20 harg20 arg22 harg22 arg24)
  iter 20 (initTile arg13 arg15 arg21 harg21 arg23 harg23 arg25)
  zeroTile arg18
  zeroTile arg19

/-- What every point does. -/
def mainStage (i : grid0.Coords) (arg2 : Memref sig .tc .vmem S1x1x256x896 .fp8e4m3) (harg2 : arg2.IsWhole) (arg3 : Memref sig .tc .vmem S1x1x2x128 .f32) (harg3 : arg3.IsWhole) (arg4 : Memref sig .tc .vmem S1x64x2560 .fp8e4m3) (harg4 : arg4.IsWhole) (arg5 : Memref sig .tc .vmem S1x64x2560 .fp8e4m3) (harg5 : arg5.IsWhole) (arg6 : Memref sig .tc .vmem S1x64x2560 .fp8e5m2) (harg6 : arg6.IsWhole) (arg7 : Memref sig .tc .vmem S1x64x2560 .fp8e5m2) (harg7 : arg7.IsWhole) (arg8 : Memref sig .tc .vmem S1x64x16 .f32) (harg8 : arg8.IsWhole) (arg9 : Memref sig .tc .vmem S1x64x16 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S896x2560 .fp8e4m3) (harg12 : arg12.IsWhole) (arg13 : Memref sig .tc .vmem S896x2560 .fp8e4m3) (harg13 : arg13.IsWhole) (arg14 : Memref sig .tc .vmem S1x2560 .f32) (harg14 : arg14.IsWhole) (arg15 : Memref sig .tc .vmem S1x2560 .f32) (harg15 : arg15.IsWhole) (arg16 : Memref sig .tc .vmem S1x64x2560 .bf16) (harg16 : arg16.IsWhole) (arg17 : Memref sig .tc .vmem S1x1x256x896 .bf16) (harg17 : arg17.IsWhole) (arg18 : Memref sig .tc .vmem S896x2560 .f32) (harg18 : arg18.IsWhole) (arg19 : Memref sig .tc .vmem S896x2560 .f32) (harg19 : arg19.IsWhole) (arg20 : Memref sig .tc .vmem S2560x896 .fp8e4m3) (harg20 : arg20.IsWhole) (arg21 : Memref sig .tc .vmem S2560x896 .fp8e4m3) (harg21 : arg21.IsWhole) (arg22 : Memref sig .tc .vmem S896x2560 .bf16) (harg22 : arg22.IsWhole) (arg23 : Memref sig .tc .vmem S896x2560 .bf16) (harg23 : arg23.IsWhole) (arg24 : Memref sig .tc .vmem S2560x128 .f32) (harg24 : arg24.IsWhole) (arg25 : Memref sig .tc .vmem S2560x128 .f32) (harg25 : arg25.IsWhole) (arg26 : Memref sig .tc .vmem S2560x128 .bf16) (harg26 : arg26.IsWhole) (arg27 : Memref sig .tc .vmem S2560x256 .bf16) (harg27 : arg27.IsWhole) (arg28 : Memref sig .tc .vmem S2560x256 .bf16) (harg28 : arg28.IsWhole) (arg29 : Memref sig .tc .vmem S2560x256 .bf16) (harg29 : arg29.IsWhole) (arg30 : Memref sig .tc .vmem S2560x256 .bf16) (harg30 : arg30.IsWhole) (arg31 : Memref sig .tc .vmem S64x2560 .f32) (harg31 : arg31.IsWhole) : P F PUnit := do
  iter 20 (xtTile arg4 arg5 arg6 arg7 arg26 harg26)
  let a ← Prog.lift (.load arg8 (Rect.unit (s := S1x64x16) ![0, 0, 0] S1x64x16.size inb_S1x64x16_S1x64x16_0_0_0).toLoadRect (View.loadsAt_vmem h_S1x64x16))
  let b ← Prog.lift (.load arg9 (Rect.unit (s := S1x64x16) ![0, 0, 0] S1x64x16.size inb_S1x64x16_S1x64x16_0_0_0).toLoadRect (View.loadsAt_vmem h_S1x64x16))
  let c ← Prog.lift (.load arg10 (Rect.unit (s := S1x1x64) ![0, 0, 0] S1x1x64.size inb_S1x1x64_S1x1x64_0_0_0).toLoadRect (View.loadsAt_vmem h_S1x1x64))
  let d ← Prog.lift (.load arg11 (Rect.unit (s := S1x1x64) ![0, 0, 0] S1x1x64.size inb_S1x1x64_S1x1x64_0_0_0).toLoadRect (View.loadsAt_vmem h_S1x1x64))
  let e ← Prog.lift (.load arg3 (Rect.unit (s := S1x1x2x128) ![0, 0, 0, 0] S1x1x1x128.size inb_S1x1x2x128_S1x1x1x128_0_0_0_0).toLoadRect (View.loadsAt_vmem h_S1x1x1x128))
  let f ← Prog.lift (.load arg3 (Rect.unit (s := S1x1x2x128) ![0, 0, 1, 0] S1x1x1x128.size inb_S1x1x2x128_S1x1x1x128_0_0_1_0).toLoadRect (View.loadsAt_vmem h_S1x1x1x128))
  let w ← Prog.lift (.load arg2 (Rect.unit (s := S1x1x256x896) ![0, 0, 0, 0] S1x1x256x896.size inb_S1x1x256x896_S1x1x256x896_0_0_0_0).toLoadRect (View.loadsAt_vmem h_S1x1x256x896))
  iter 4 (groupStage arg20 arg21 arg24 arg25 arg26 arg27 harg27 arg28 harg28 arg29 harg29 arg30 harg30 arg16 harg16 arg31 (BitVec.ofNat 32 (i 1).val) (pEs e f) (pEmb w) (pQs a b) (pDosRow c d))
  dembStage arg22 arg23 arg29 arg30 arg17 harg17
  dwStage arg29 arg18 (pEd (pEs e f) (pEmb w))
  dwStage arg30 arg19 (pEd (pEs e f) (pEmb w))

/-- Whether the point is the first one, as the kernel asks it. -/
def firstBit (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The body. -/
def bodyStage (i : grid0.Coords) (arg2 : Memref sig .tc .vmem S1x1x256x896 .fp8e4m3) (harg2 : arg2.IsWhole) (arg3 : Memref sig .tc .vmem S1x1x2x128 .f32) (harg3 : arg3.IsWhole) (arg4 : Memref sig .tc .vmem S1x64x2560 .fp8e4m3) (harg4 : arg4.IsWhole) (arg5 : Memref sig .tc .vmem S1x64x2560 .fp8e4m3) (harg5 : arg5.IsWhole) (arg6 : Memref sig .tc .vmem S1x64x2560 .fp8e5m2) (harg6 : arg6.IsWhole) (arg7 : Memref sig .tc .vmem S1x64x2560 .fp8e5m2) (harg7 : arg7.IsWhole) (arg8 : Memref sig .tc .vmem S1x64x16 .f32) (harg8 : arg8.IsWhole) (arg9 : Memref sig .tc .vmem S1x64x16 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S896x2560 .fp8e4m3) (harg12 : arg12.IsWhole) (arg13 : Memref sig .tc .vmem S896x2560 .fp8e4m3) (harg13 : arg13.IsWhole) (arg14 : Memref sig .tc .vmem S1x2560 .f32) (harg14 : arg14.IsWhole) (arg15 : Memref sig .tc .vmem S1x2560 .f32) (harg15 : arg15.IsWhole) (arg16 : Memref sig .tc .vmem S1x64x2560 .bf16) (harg16 : arg16.IsWhole) (arg17 : Memref sig .tc .vmem S1x1x256x896 .bf16) (harg17 : arg17.IsWhole) (arg18 : Memref sig .tc .vmem S896x2560 .f32) (harg18 : arg18.IsWhole) (arg19 : Memref sig .tc .vmem S896x2560 .f32) (harg19 : arg19.IsWhole) (arg20 : Memref sig .tc .vmem S2560x896 .fp8e4m3) (harg20 : arg20.IsWhole) (arg21 : Memref sig .tc .vmem S2560x896 .fp8e4m3) (harg21 : arg21.IsWhole) (arg22 : Memref sig .tc .vmem S896x2560 .bf16) (harg22 : arg22.IsWhole) (arg23 : Memref sig .tc .vmem S896x2560 .bf16) (harg23 : arg23.IsWhole) (arg24 : Memref sig .tc .vmem S2560x128 .f32) (harg24 : arg24.IsWhole) (arg25 : Memref sig .tc .vmem S2560x128 .f32) (harg25 : arg25.IsWhole) (arg26 : Memref sig .tc .vmem S2560x128 .bf16) (harg26 : arg26.IsWhole) (arg27 : Memref sig .tc .vmem S2560x256 .bf16) (harg27 : arg27.IsWhole) (arg28 : Memref sig .tc .vmem S2560x256 .bf16) (harg28 : arg28.IsWhole) (arg29 : Memref sig .tc .vmem S2560x256 .bf16) (harg29 : arg29.IsWhole) (arg30 : Memref sig .tc .vmem S2560x256 .bf16) (harg30 : arg30.IsWhole) (arg31 : Memref sig .tc .vmem S64x2560 .f32) (harg31 : arg31.IsWhole) : P F PUnit :=
  if _h : firstBit i = 1#1 then initStage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 >>= fun _ => mainStage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 else mainStage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31

end Cert.KernelIdeal.Hand
-- ==== Proof.KIdeal.Rules.lean ====
module

public import proofs.«01_k».proof.Proof.KIdeal.Stages
public import proofs.«01_k».proof.Proof.Gen.KernelIdeal.Frame
public import Idealize.ShloMosaic.Lib.VecWindow

/-! # One load, one store, one loop

Rules of the program logic on buffers known by what their views read: a load of a box reads a window, a store of a box
puts a window, and a loop that fills the tiles of a buffer in turn leaves every tile filled. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow

variable {F : FTy → Type} [FloatOps F]

local notation "𝕄" => MT nD τ sig Unit (Elt F) ℕ (UR sig nD τ) ℕ

/-- The weakest precondition of a piece of the body. -/
abbrev WP (c : Dev nD) (E : Set ℕ) {α : Type} (p : P F α) (Q : α → sProp 𝕄) : sProp 𝕄 :=
  wp frame (wpE (defs₀ (F := F)) Variants.none (c : Thread nD τ) none) E p Q

variable (c : Dev nD) (E : Set ℕ) {s : Shape} {e : EltTy} {α : Type} {Q : α → sProp (MT nD τ sig Unit (Elt F) ℕ (UR sig nD τ) ℕ)}

/-- A load of a box reads the window there. -/
theorem wp_ld {m : Memref sig .tc .vmem s e} {off size : Fin s.rank → ℕ} {inb : ∀ a, off a + size a ≤ s.size a}
    {hl : m.view.LoadsAt (Rect.unit off size inb).toLoadRect}
    {k : ((Rect.unit off size inb).shape.Idx → Elt F e) → P F α} {q : PosShare TreeShare} {X : s.Idx → Elt F e} :
    owns (c : Thread nD τ) m q X
      ⊢ iprop((owns (c : Thread nD τ) m q X -∗ WP c E (k (window X off size inb)) Q)
        -∗ WP c E (.op (.load m (Rect.unit off size inb).toLoadRect hl) k) Q) := by
  unfold owns
  iintro ⟨%f, %hf, H⟩ Hk
  iapply (wp_load Variants.none (c : Thread nD τ) none E (m := m) (hl := hl) (k := k) (View.setOn_subset_set m.view _)) $$ H
  iintro H
  have e1 : m.view.readAt (Elt F) (Rect.unit off size inb).toLoadRect f = window X off size inb := by
    rw [View.readAt_unit m.view f inb rfl inb, hf]
  rw [e1]
  iapply Hk
  iexists f; isplitr; · ipureintro; exact hf
  iexact H

/-- A store of a box puts the window there. -/
theorem wp_st {m : Memref sig .tc .vmem s e} {off size : Fin s.rank → ℕ} {inb : ∀ a, off a + size a ≤ s.size a}
    {w : (Rect.unit off size inb).shape.Idx → Elt F e}
    {hx : (m.access (Rect.unit off size inb)).Stores Finset.univ} {hm : (Finset.univ : Finset (Rect.unit off size inb).shape.Idx) = Finset.univ ∨ ∀ a, (Rect.unit off size inb).stride a = 1}
    {k : PUnit → P F α} {X : s.Idx → Elt F e} :
    owns (c : Thread nD τ) m fullShare X
      ⊢ iprop((owns (c : Thread nD τ) m fullShare (put X off size w) -∗ WP c E (k ⟨⟩) Q)
        -∗ WP c E (.op (.store m (Rect.unit off size inb) w Finset.univ hx hm) k) Q) := by
  unfold owns
  iintro ⟨%f, %hf, H⟩ Hk
  iapply (wp_store_writes₀ Variants.none (c : Thread nD τ) none E (m := m) (hx := hx) (hm := hm) (k := k) (w := w) (View.set_slice_subset m.view _)) $$ H
  iintro H
  iapply Hk
  iexists _; isplitr
  · ipureintro
    rw [View.read_writes_cons_put m.view f inb w [] rfl, View.writes_nil, hf]
  iexact H

/-- A program that returns. -/
theorem exec_ret_intro (a : α) : Q a ⊢ WP c E (.ret a) Q := by
  show Q a ⊢ wp frame _ E (.ret a) Q
  rw [wp_ret]
  exact fupd_intro

/-- A loop keeps an invariant that each of its turns keeps. -/
theorem wp_iter (I : ℕ → sProp 𝕄) : ∀ (n : ℕ) (f : Fin n → P F PUnit) (o : ℕ)
    (h : ∀ (i : Fin n) (Q : PUnit → sProp 𝕄), iprop(I (o + i.val) ∗ (I (o + i.val + 1) -∗ Q ⟨⟩)) ⊢ WP c E (f i) Q) (Q : PUnit → sProp 𝕄),
    iprop(I o ∗ (I (o + n) -∗ Q ⟨⟩)) ⊢ WP c E (iter n f) Q
  | 0, f, o, h, Q => by
    unfold iter
    have e0 : o + 0 = o := rfl
    rw [e0]
    iintro ⟨H, Hk⟩
    iapply (exec_ret_intro c E)
    iapply Hk; iexact H
  | n + 1, f, o, h, Q => by
    unfold iter
    have ih := wp_iter I n (fun i => f i.succ) (o + 1) (fun i Q => by
      have := h i.succ Q
      have e1 : o + i.succ.val = o + 1 + i.val := by simp only [Fin.val_succ]; omega
      rw [e1] at this
      exact this) Q
    have e0 : o + (0 : Fin (n + 1)).val = o := rfl
    have h0 := h 0 (fun _ => WP c E (iter n fun i => f i.succ) Q)
    rw [e0] at h0
    show _ ⊢ wp frame _ E (f 0 >>= fun _ => iter n fun i => f i.succ) Q
    rw [wp_bind]
    have e2 : o + 1 + n = o + (n + 1) := by omega
    rw [e2] at ih
    iintro ⟨H, Hk⟩
    iapply h0
    isplitl [H]; · iexact H
    iintro H
    iapply ih
    isplitl [H]; · iexact H
    iexact Hk

/-- Filling one more tile. Along the axis `a` the buffer `X` agrees with `T` below tile `j`; after tile `j` is put at what
`T` holds there, it agrees below tile `j + 1`. -/
theorem put_tile {X T : s.Idx → α} (a : Fin s.rank) (W j : ℕ) {off size : Fin s.rank → ℕ} {w : ((b : Fin s.rank) → Fin (size b)) → α}
    (ha : off a = W * j) (hs : size a = W) (hb : ∀ b, b ≠ a → off b = 0 ∧ size b = s.size b)
    (hX : ∀ i : s.Idx, (i a).val < W * j → X i = T i)
    (hw : ∀ (i : s.Idx) (h : ∀ b, off b ≤ (i b).val ∧ (i b).val < off b + size b), w (Rect.unitLocal (s := s) i h) = T i) :
    ∀ i : s.Idx, (i a).val < W * (j + 1) → put X off size w i = T i := by
  intro i hi
  unfold put
  split
  · next h => exact hw i h
  · next h =>
    refine hX i ?_
    by_contra hn
    refine h fun b => ?_
    by_cases e : b = a
    · subst e; rw [ha, hs]; rw [Nat.mul_succ] at hi; omega
    · obtain ⟨h1, h2⟩ := hb b e
      rw [h1, h2]
      exact ⟨Nat.zero_le _, by simpa using (i b).isLt⟩

/-- What lies beyond the tile just put is as it was. -/
theorem put_beyond {X : s.Idx → α} (a : Fin s.rank) (W j : ℕ) {off size : Fin s.rank → ℕ} {w : ((b : Fin s.rank) → Fin (size b)) → α}
    (ha : off a = W * j) (hs : size a = W) (i : s.Idx) (hi : W * (j + 1) ≤ (i a).val) : put X off size w i = X i := by
  unfold put
  rw [dif_neg]
  intro h
  have := (h a).2
  rw [ha, hs] at this
  rw [Nat.mul_succ] at hi
  omega

/-- A window read where two buffers agree. -/
theorem window_congr {X T : s.Idx → α} {off size : Fin s.rank → ℕ} {inb : ∀ a, off a + size a ≤ s.size a}
    (h : ∀ i : s.Idx, (∀ a, off a ≤ (i a).val ∧ (i a).val < off a + size a) → X i = T i) :
    window X off size inb = window T off size inb := by
  funext y
  refine h _ fun a => ?_
  have e1 : ((Rect.unit off size inb).emb y a).val = off a + 1 * (y a).val := rfl
  have : (y a).val < size a := (y a).isLt
  omega

/-- A put of the whole buffer. -/
theorem put_full {X T : s.Idx → α} {off size : Fin s.rank → ℕ} {w : ((b : Fin s.rank) → Fin (size b)) → α}
    (ho : ∀ b, off b = 0) (hs : ∀ b, size b = s.size b)
    (hw : ∀ (i : s.Idx) (h : ∀ b, off b ≤ (i b).val ∧ (i b).val < off b + size b), w (Rect.unitLocal (s := s) i h) = T i) :
    put X off size w = T := by
  funext i
  unfold put
  have h : ∀ b, off b ≤ (i b).val ∧ (i b).val < off b + size b := fun b => by
    rw [ho b, hs b]; exact ⟨Nat.zero_le _, by simpa using (i b).isLt⟩
  rw [dif_pos h]
  exact hw i h

end Cert.KernelIdeal.Hand
-- ==== Proof.KIdeal.Specs.lean ====
module

public import proofs.«01_k».proof.Proof.KIdeal.Rules

/-! # What each stage of the body does to the buffers

One lemma per stage, for every number of the tile, the group or the head: the buffers the stage reads are as they were,
the buffer it writes has one more tile filled with the values `T` that the payload has there. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow

variable {F : FTy → Type} [FloatOps F]

local notation "𝕄" => MT nD τ sig Unit (Elt F) ℕ (UR sig nD τ) ℕ

variable (c : Dev nD) (E : Set ℕ)

/-- Below tile `k` along the axis `a` the buffer holds `T`. -/
def Filled {s : Shape} {α : Type} (a : Fin s.rank) (W : ℕ) (T : s.Idx → α) (k : ℕ) (X : s.Idx → α) : Prop :=
  ∀ i : s.Idx, (i a).val < W * k → X i = T i

theorem Filled.all {s : Shape} {α : Type} {a : Fin s.rank} {W n : ℕ} {T X : s.Idx → α} (h : Filled a W T n X) (hn : s.size a ≤ W * n) : X = T :=
  funext fun i => h i (lt_of_lt_of_le (i a).isLt hn)

theorem Filled.zero {s : Shape} {α : Type} {a : Fin s.rank} {W : ℕ} {T X : s.Idx → α} : Filled a W T 0 X :=
  fun i h => absurd h (by simp)

theorem oth0 {s t : Fin 2 → ℕ} (n : ℕ) (h : t 1 = s 1) : ∀ b : Fin 2, b ≠ 0 → (![n, 0] : Fin 2 → ℕ) b = 0 ∧ t b = s b := by
  intro b hb
  fin_cases b
  · exact absurd rfl hb
  · exact ⟨rfl, h⟩

theorem oth1 {s t : Fin 2 → ℕ} (n : ℕ) (h : t 0 = s 0) : ∀ b : Fin 2, b ≠ 1 → (![0, n] : Fin 2 → ℕ) b = 0 ∧ t b = s b := by
  intro b hb
  fin_cases b
  · exact ⟨rfl, h⟩
  · exact absurd rfl hb

theorem oth2 {s t : Fin 3 → ℕ} (n : ℕ) (h0 : t 0 = s 0) (h1 : t 1 = s 1) : ∀ b : Fin 3, b ≠ 2 → (![0, 0, n] : Fin 3 → ℕ) b = 0 ∧ t b = s b := by
  intro b hb
  fin_cases b
  · exact ⟨rfl, h0⟩
  · exact ⟨rfl, h1⟩
  · exact absurd rfl hb

/-- All the tiles of the weights. -/
theorem initTile_spec {wc : Memref sig .tc .vmem S896x2560 .fp8e4m3} {ws : Memref sig .tc .vmem S1x2560 .f32} {wt : Memref sig .tc .vmem S2560x896 .fp8e4m3} {hwt : wt.IsWhole} {wd : Memref sig .tc .vmem S896x2560 .bf16} {hwd : wd.IsWhole} {sc : Memref sig .tc .vmem S2560x128 .f32}
    {q1 q2 : PosShare TreeShare} {Wc : Vec F S896x2560 .fp8e4m3} {Ws : Vec F S1x2560 .f32} {TA : Vec F S2560x896 .fp8e4m3} {TB : Vec F S896x2560 .bf16} {TC : Vec F S2560x128 .f32}
    (hA : ∀ (j : Fin 20) (i : S2560x896.Idx) (h : ∀ b, (![128 * j.val, 0] : Fin 2 → ℕ) b ≤ (i b).val ∧ (i b).val < (![128 * j.val, 0] : Fin 2 → ℕ) b + S128x896.size b),
      pWt (window (s := S896x2560) Wc ![0, 128 * j.val] S896x128.size (inbWc j)) (Rect.unitLocal (s := S2560x896) i h) = TA i)
    (hB : ∀ (j : Fin 20) (i : S896x2560.Idx) (h : ∀ b, (![0, 128 * j.val] : Fin 2 → ℕ) b ≤ (i b).val ∧ (i b).val < (![0, 128 * j.val] : Fin 2 → ℕ) b + S896x128.size b),
      pWd (window (s := S896x2560) Wc ![0, 128 * j.val] S896x128.size (inbWc j)) (window (s := S1x2560) Ws ![0, 128 * j.val] S1x128.size (inbWs j)) (Rect.unitLocal (s := S896x2560) i h) = TB i)
    (hC : ∀ (j : Fin 20) (i : S2560x128.Idx) (h : ∀ b, (![128 * j.val, 0] : Fin 2 → ℕ) b ≤ (i b).val ∧ (i b).val < (![128 * j.val, 0] : Fin 2 → ℕ) b + S128x128.size b),
      pSc (window (s := S1x2560) Ws ![0, 128 * j.val] S1x128.size (inbWs j)) (Rect.unitLocal (s := S2560x128) i h) = TC i)
    {A : Vec F S2560x896 .fp8e4m3} {B : Vec F S896x2560 .bf16} {C : Vec F S2560x128 .f32} {Q : PUnit → sProp (MT nD τ sig Unit (Elt F) ℕ (UR sig nD τ) ℕ)} :
    iprop(owns (c : Thread nD τ) wc q1 Wc ∗ owns (c : Thread nD τ) ws q2 Ws ∗ owns (c : Thread nD τ) wt fullShare A ∗ owns (c : Thread nD τ) wd fullShare B ∗ owns (c : Thread nD τ) sc fullShare C
      ∗ ((owns (c : Thread nD τ) wc q1 Wc ∗ owns (c : Thread nD τ) ws q2 Ws ∗ owns (c : Thread nD τ) wt fullShare TA ∗ owns (c : Thread nD τ) wd fullShare TB ∗ owns (c : Thread nD τ) sc fullShare TC) -∗ Q ⟨⟩))
      ⊢ WP c E (iter 20 (initTile wc ws wt hwt wd hwd sc)) Q := by
  let I : ℕ → sProp (MT nD τ sig Unit (Elt F) ℕ (UR sig nD τ) ℕ) := fun k =>
    iprop(owns (c : Thread nD τ) wc q1 Wc ∗ owns (c : Thread nD τ) ws q2 Ws ∗ ∃ A B C, ⌜Filled (s := S2560x896) 0 128 TA k A ∧ Filled (s := S896x2560) 1 128 TB k B ∧ Filled (s := S2560x128) 0 128 TC k C⌝
      ∗ owns (c : Thread nD τ) wt fullShare A ∗ owns (c : Thread nD τ) wd fullShare B ∗ owns (c : Thread nD τ) sc fullShare C)
  have step := wp_iter c E I 20 (initTile wc ws wt hwt wd hwd sc) 0 (by
    intro j Q
    rw [Nat.zero_add]
    dsimp only [I]
    unfold initTile
    simp only [Prog.bind_lift, Prog.lift]
    iintro ⟨⟨H1, H2, %A, %B, %C, %hf, H3, H4, H5⟩, Hk⟩
    iapply (wp_ld c E (m := wc)) $$ H1; iintro H1
    iapply (wp_ld c E (m := ws)) $$ H2; iintro H2
    iapply (wp_ld c E (m := wt)) $$ H3; iintro H3
    iapply (wp_st c E (m := wt)) $$ H3; iintro H3
    iapply (wp_ld c E (m := wd)) $$ H4; iintro H4
    iapply (wp_st c E (m := wd)) $$ H4; iintro H4
    iapply (wp_ld c E (m := sc)) $$ H5; iintro H5
    iapply (wp_st c E (m := sc)) $$ H5; iintro H5
    iapply (exec_ret_intro c E)
    iapply Hk
    isplitl [H1]; · iexact H1
    isplitl [H2]; · iexact H2
    iexists _; iexists _; iexists _
    isplitr
    · ipureintro
      exact ⟨put_tile (size := S128x896.size) (s := S2560x896) 0 128 j.val rfl rfl (oth0 _ rfl) hf.1 (hA j), put_tile (size := S896x128.size) (s := S896x2560) 1 128 j.val rfl rfl (oth1 _ rfl) hf.2.1 (hB j), put_tile (size := S128x128.size) (s := S2560x128) 0 128 j.val rfl rfl (oth0 _ rfl) hf.2.2 (hC j)⟩
    isplitl [H3]; · iexact H3
    isplitl [H4]; · iexact H4
    iexact H5) Q
  iintro ⟨H1, H2, H3, H4, H5, Hk⟩
  iapply step
  isplitl [H1 H2 H3 H4 H5]
  · isplitl [H1]; · iexact H1
    isplitl [H2]; · iexact H2
    iexists A; iexists B; iexists C
    isplitr; · ipureintro; exact ⟨.zero, .zero, .zero⟩
    isplitl [H3]; · iexact H3
    isplitl [H4]; · iexact H4
    iexact H5
  iintro ⟨H1, H2, %A', %B', %C', %hf, H3, H4, H5⟩
  have eA := hf.1.all (by decide)
  have eB := hf.2.1.all (by decide)
  have eC := hf.2.2.all (by decide)
  subst eA eB eC
  iapply Hk
  isplitl [H1]; · iexact H1
  isplitl [H2]; · iexact H2
  isplitl [H3]; · iexact H3
  isplitl [H4]; · iexact H4
  iexact H5

/-- All the tiles of the shifted queries and output gradients. -/
theorem xtTile_spec {q0 : Memref sig .tc .vmem S1x64x2560 .fp8e4m3} {q1 : Memref sig .tc .vmem S1x64x2560 .fp8e4m3} {d0 : Memref sig .tc .vmem S1x64x2560 .fp8e5m2} {d1 : Memref sig .tc .vmem S1x64x2560 .fp8e5m2} {xt : Memref sig .tc .vmem S2560x128 .bf16} {hxt : xt.IsWhole} {s4 s5 s6 s7 : PosShare TreeShare}
    {X4 X5 : Vec F S1x64x2560 .fp8e4m3} {X6 X7 : Vec F S1x64x2560 .fp8e5m2} {T26 : Vec F S2560x128 .bf16}
    (hX : ∀ (j : Fin 20) (i : S2560x128.Idx) (h : ∀ b, (![128 * j.val, 0] : Fin 2 → ℕ) b ≤ (i b).val ∧ (i b).val < (![128 * j.val, 0] : Fin 2 → ℕ) b + S128x128.size b), pXt (window (s := S1x64x2560) X4 ![0, 0, 128 * j.val] S1x64x128.size (inbQ j)) (window (s := S1x64x2560) X5 ![0, 0, 128 * j.val] S1x64x128.size (inbQ j)) (window (s := S1x64x2560) X6 ![0, 0, 128 * j.val] S1x64x128.size (inbQ j)) (window (s := S1x64x2560) X7 ![0, 0, 128 * j.val] S1x64x128.size (inbQ j)) (Rect.unitLocal (s := S2560x128) i h) = T26 i)
    {A : Vec F S2560x128 .bf16} {Q : PUnit → sProp (MT nD τ sig Unit (Elt F) ℕ (UR sig nD τ) ℕ)} :
    iprop(owns (c : Thread nD τ) q0 s4 X4 ∗ owns (c : Thread nD τ) q1 s5 X5 ∗ owns (c : Thread nD τ) d0 s6 X6 ∗ owns (c : Thread nD τ) d1 s7 X7 ∗ owns (c : Thread nD τ) xt fullShare A ∗ ((owns (c : Thread nD τ) q0 s4 X4 ∗ owns (c : Thread nD τ) q1 s5 X5 ∗ owns (c : Thread nD τ) d0 s6 X6 ∗ owns (c : Thread nD τ) d1 s7 X7 ∗ owns (c : Thread nD τ) xt fullShare T26) -∗ Q ⟨⟩))
      ⊢ WP c E (iter 20 (xtTile q0 q1 d0 d1 xt hxt)) Q := by
  let I : ℕ → sProp (MT nD τ sig Unit (Elt F) ℕ (UR sig nD τ) ℕ) := fun k =>
    iprop(owns (c : Thread nD τ) q0 s4 X4 ∗ owns (c : Thread nD τ) q1 s5 X5 ∗ owns (c : Thread nD τ) d0 s6 X6 ∗ owns (c : Thread nD τ) d1 s7 X7 ∗ ∃ A, ⌜Filled (s := S2560x128) 0 128 T26 k A⌝ ∗ owns (c : Thread nD τ) xt fullShare A)
  have step := wp_iter c E I 20 (xtTile q0 q1 d0 d1 xt hxt) 0 (by
    intro j Q
    rw [Nat.zero_add]
    dsimp only [I]
    unfold xtTile
    simp only [Prog.bind_lift, Prog.lift]
    iintro ⟨⟨H1, H2, H3, H4, %A, %hf, H5⟩, Hk⟩
    iapply (wp_ld c E (m := q0)) $$ H1; iintro H1
    iapply (wp_ld c E (m := q1)) $$ H2; iintro H2
    iapply (wp_ld c E (m := d0)) $$ H3; iintro H3
    iapply (wp_ld c E (m := d1)) $$ H4; iintro H4
    iapply (wp_ld c E (m := xt)) $$ H5; iintro H5
    iapply (wp_st c E (m := xt)) $$ H5; iintro H5
    iapply (exec_ret_intro c E)
    iapply Hk
    isplitl [H1]; · iexact H1
    isplitl [H2]; · iexact H2
    isplitl [H3]; · iexact H3
    isplitl [H4]; · iexact H4
    iexists _
    isplitr
    · ipureintro
      exact put_tile (size := S128x128.size) (s := S2560x128) 0 128 j.val rfl rfl (oth0 _ rfl) hf (hX j)
    iexact H5) Q
  iintro ⟨H1, H2, H3, H4, H5, Hk⟩
  iapply step
  isplitl [H1 H2 H3 H4 H5]
  · isplitl [H1]; · iexact H1
    isplitl [H2]; · iexact H2
    isplitl [H3]; · iexact H3
    isplitl [H4]; · iexact H4
    iexists A
    isplitr; · ipureintro; exact .zero
    iexact H5
  iintro ⟨H1, H2, H3, H4, %A', %hf, H5⟩
  have eA := hf.all (by decide)
  subst eA
  iapply Hk
  isplitl [H1]; · iexact H1
  isplitl [H2]; · iexact H2
  isplitl [H3]; · iexact H3
  isplitl [H4]; · iexact H4
  iexact H5

/-- A weight gradient set to zero. -/
theorem zeroTile_spec {dw : Memref sig .tc .vmem S896x2560 .f32} {A : Vec F S896x2560 .f32} {Q : PUnit → sProp (MT nD τ sig Unit (Elt F) ℕ (UR sig nD τ) ℕ)} :
    iprop(owns (c : Thread nD τ) dw fullShare A ∗ (owns (c : Thread nD τ) dw fullShare (pZero (F := F)) -∗ Q ⟨⟩)) ⊢ WP c E (zeroTile dw) Q := by
  unfold zeroTile
  simp only [Prog.bind_lift, Prog.lift]
  iintro ⟨H1, Hk⟩
  iapply (wp_ld c E (m := dw)) $$ H1; iintro H1
  iapply (wp_st c E (m := dw)) $$ H1; iintro H1
  iapply (exec_ret_intro c E)
  rw [put_full (s := S896x2560) (T := pZero (F := F)) (by decide) (by decide) (fun i h => rfl)]
  iapply Hk; iexact H1

/-- The projection of a group. -/
theorem projStage_spec {wt : Memref sig .tc .vmem S2560x896 .fp8e4m3} {sc : Memref sig .tc .vmem S2560x128 .f32} {kt : Memref sig .tc .vmem S2560x256 .bf16} {hkt : kt.IsWhole} {es : FVec F S1x256 .f32} {emb : FVec F S256x896 .fp8e4m3}
    {V : Vec F S2560x896 .fp8e4m3} {S : Vec F S2560x128 .f32} {T : Vec F S2560x256 .bf16}
    (hP : ∀ (g : Fin 4) (i : S2560x256.Idx) (h : ∀ b, (![640 * g.val, 0] : Fin 2 → ℕ) b ≤ (i b).val ∧ (i b).val < (![640 * g.val, 0] : Fin 2 → ℕ) b + S640x256.size b), pProj es emb (window (s := S2560x896) V ![640 * g.val, 0] S640x896.size (inbGw g)) (window (s := S2560x128) S ![640 * g.val, 0] S640x128.size (inbGs g)) (Rect.unitLocal (s := S2560x256) i h) = T i) (g : Fin 4)
    {A : Vec F S2560x256 .bf16} (hA : Filled (s := S2560x256) 0 640 T g.val A) {Q : PUnit → sProp (MT nD τ sig Unit (Elt F) ℕ (UR sig nD τ) ℕ)} :
    iprop(owns (c : Thread nD τ) wt fullShare V ∗ owns (c : Thread nD τ) sc fullShare S ∗ owns (c : Thread nD τ) kt fullShare A
      ∗ ((owns (c : Thread nD τ) wt fullShare V ∗ owns (c : Thread nD τ) sc fullShare S ∗ ∃ A, ⌜Filled (s := S2560x256) 0 640 T (g.val + 1) A⌝ ∗ owns (c : Thread nD τ) kt fullShare A) -∗ Q ⟨⟩))
      ⊢ WP c E (projStage wt sc kt hkt es emb g) Q := by
  unfold projStage
  simp only [Prog.bind_lift, Prog.lift]
  iintro ⟨H1, H2, H3, Hk⟩
  iapply (wp_ld c E (m := wt)) $$ H1; iintro H1
  iapply (wp_ld c E (m := sc)) $$ H2; iintro H2
  iapply (wp_ld c E (m := kt)) $$ H3; iintro H3
  iapply (wp_st c E (m := kt)) $$ H3; iintro H3
  iapply (exec_ret_intro c E)
  iapply Hk
  isplitl [H1]; · iexact H1
  isplitl [H2]; · iexact H2
  iexists _
  isplitr
  · ipureintro
    exact put_tile (size := S640x256.size) (s := S2560x256) 0 640 g.val rfl rfl (oth0 _ rfl) hA (hP g)
  iexact H3

/-- One head. -/
theorem headStage_spec {xt : Memref sig .tc .vmem S2560x128 .bf16} {kt : Memref sig .tc .vmem S2560x256 .bf16} {vt : Memref sig .tc .vmem S2560x256 .bf16} {dkt : Memref sig .tc .vmem S2560x256 .bf16} {hdkt : dkt.IsWhole} {dvt : Memref sig .tc .vmem S2560x256 .bf16} {hdvt : dvt.IsWhole} {qs : FVec F S64x16 .f32} {dosR : FVec F S1x128 .f32} {live : IVec S64x1 1}
    {T26 : Vec F S2560x128 .bf16} {T27 T28 T29 T30 : Vec F S2560x256 .bf16}
    (hK : ∀ (h : Fin 16) (i : S2560x256.Idx) (hi : ∀ b, (![160 * h.val, 0] : Fin 2 → ℕ) b ≤ (i b).val ∧ (i b).val < (![160 * h.val, 0] : Fin 2 → ℕ) b + S160x256.size b), hDk h qs dosR live (window (s := S2560x128) T26 ![160 * (h).val, 0] S160x128.size (inbHx (h))) (window (s := S2560x256) T27 ![160 * (h).val, 0] S160x256.size (inbHk (h))) (window (s := S2560x256) T28 ![160 * (h).val, 0] S160x256.size (inbHk (h))) (Rect.unitLocal (s := S2560x256) i hi) = T29 i)
    (hV : ∀ (h : Fin 16) (i : S2560x256.Idx) (hi : ∀ b, (![160 * h.val, 0] : Fin 2 → ℕ) b ≤ (i b).val ∧ (i b).val < (![160 * h.val, 0] : Fin 2 → ℕ) b + S160x256.size b), hDv h qs dosR live (window (s := S2560x128) T26 ![160 * (h).val, 0] S160x128.size (inbHx (h))) (window (s := S2560x256) T27 ![160 * (h).val, 0] S160x256.size (inbHk (h))) (window (s := S2560x256) T28 ![160 * (h).val, 0] S160x256.size (inbHk (h))) (Rect.unitLocal (s := S2560x256) i hi) = T30 i)
    (g k : Fin 4) {K V A B : Vec F S2560x256 .bf16} (h27 : Filled (s := S2560x256) 0 640 T27 (g.val + 1) K) (h28 : Filled (s := S2560x256) 0 640 T28 (g.val + 1) V)
    (h29 : Filled (s := S2560x256) 0 160 T29 (4 * g.val + k.val) A) (h30 : Filled (s := S2560x256) 0 160 T30 (4 * g.val + k.val) B) {Q : FVec F S64x160 .f32 → sProp (MT nD τ sig Unit (Elt F) ℕ (UR sig nD τ) ℕ)} :
    iprop(owns (c : Thread nD τ) xt fullShare T26 ∗ owns (c : Thread nD τ) kt fullShare K ∗ owns (c : Thread nD τ) vt fullShare V ∗ owns (c : Thread nD τ) dkt fullShare A ∗ owns (c : Thread nD τ) dvt fullShare B
      ∗ ((owns (c : Thread nD τ) xt fullShare T26 ∗ owns (c : Thread nD τ) kt fullShare K ∗ owns (c : Thread nD τ) vt fullShare V ∗ ∃ A B, ⌜Filled (s := S2560x256) 0 160 T29 (4 * g.val + k.val + 1) A ∧ Filled (s := S2560x256) 0 160 T30 (4 * g.val + k.val + 1) B⌝ ∗ owns (c : Thread nD τ) dkt fullShare A ∗ owns (c : Thread nD τ) dvt fullShare B)
        -∗ Q (hDq (hd g k) qs dosR live (window (s := S2560x128) T26 ![160 * (hd g k).val, 0] S160x128.size (inbHx (hd g k))) (window (s := S2560x256) T27 ![160 * (hd g k).val, 0] S160x256.size (inbHk (hd g k))) (window (s := S2560x256) T28 ![160 * (hd g k).val, 0] S160x256.size (inbHk (hd g k))))))
      ⊢ WP c E (headStage xt kt vt dkt hdkt dvt hdvt qs dosR live (hd g k)) Q := by
  have hb : ∀ (X T : Vec F S2560x256 .bf16), Filled (s := S2560x256) 0 640 T (g.val + 1) X →
      (window (s := S2560x256) X ![160 * (hd g k).val, 0] S160x256.size (inbHk (hd g k))) = (window (s := S2560x256) T ![160 * (hd g k).val, 0] S160x256.size (inbHk (hd g k))) := by
    intro X T hX
    refine window_congr fun i hi => hX i ?_
    have h0 := (hi 0).2
    have e0 : (![160 * (hd g k).val, 0] : Fin 2 → ℕ) 0 = 160 * (4 * g.val + k.val) := rfl
    have e1 : S160x256.size 0 = 160 := rfl
    have hk := k.isLt
    have h0' : (i 0).val < 160 * (4 * g.val + k.val) + 160 := h0
    omega
  have e27 := hb K T27 h27
  have e28 := hb V T28 h28
  unfold headStage
  simp only [Prog.bind_lift, Prog.lift, Prog.pure_eq_ret]
  iintro ⟨H1, H2, H3, H4, H5, Hk⟩
  iapply (wp_ld c E (m := xt)) $$ H1; iintro H1
  iapply (wp_ld c E (m := kt)) $$ H2; iintro H2
  iapply (wp_ld c E (m := vt)) $$ H3; iintro H3
  rw [e27, e28]
  iapply (wp_ld c E (m := dkt)) $$ H4; iintro H4
  iapply (wp_st c E (m := dkt)) $$ H4; iintro H4
  iapply (wp_ld c E (m := dvt)) $$ H5; iintro H5
  iapply (wp_st c E (m := dvt)) $$ H5; iintro H5
  iapply (exec_ret_intro c E)
  iapply Hk
  isplitl [H1]; · iexact H1
  isplitl [H2]; · iexact H2
  isplitl [H3]; · iexact H3
  iexists _; iexists _
  isplitr
  · ipureintro
    exact ⟨put_tile (size := S160x256.size) (s := S2560x256) 0 160 (4 * g.val + k.val) rfl rfl (oth0 _ rfl) h29 (hK (hd g k)), put_tile (size := S160x256.size) (s := S2560x256) 0 160 (4 * g.val + k.val) rfl rfl (oth0 _ rfl) h30 (hV (hd g k))⟩
  isplitl [H4]; · iexact H4
  iexact H5

/-- The gradient of the queries of a group. -/
theorem dqStage_spec {dq : Memref sig .tc .vmem S1x64x2560 .bf16} {hdq : dq.IsWhole} {car : Memref sig .tc .vmem S64x2560 .f32} {u : BitVec 32} {a b d e : FVec F S64x160 .f32}
    {C T31 : Vec F S64x2560 .f32} {T16 : Vec F S1x64x2560 .bf16} (g : Fin 4)
    (hQ : ∀ (i : S1x64x2560.Idx) (h : ∀ b, (![0, 0, 640 * g.val] : Fin 3 → ℕ) b ≤ (i b).val ∧ (i b).val < (![0, 0, 640 * g.val] : Fin 3 → ℕ) b + S1x64x640.size b), pDqOut u (pRoll a b d e) (window (s := S64x2560) C ![0, 640 * g.val] S64x640.size (inbGd g)) (Rect.unitLocal (s := S1x64x2560) i h) = T16 i)
    (hC : ∀ (i : S64x2560.Idx) (h : ∀ b, (![0, 640 * g.val] : Fin 2 → ℕ) b ≤ (i b).val ∧ (i b).val < (![0, 640 * g.val] : Fin 2 → ℕ) b + S64x640.size b), pCarry (pRoll a b d e) (Rect.unitLocal (s := S64x2560) i h) = T31 i)
    {A : Vec F S1x64x2560 .bf16} {B : Vec F S64x2560 .f32} (h16 : Filled (s := S1x64x2560) 2 640 T16 g.val A) (h31 : Filled (s := S64x2560) 1 640 T31 g.val B)
    (hold : ∀ i : S64x2560.Idx, 640 * g.val ≤ (i 1).val → B i = C i) {Q : PUnit → sProp (MT nD τ sig Unit (Elt F) ℕ (UR sig nD τ) ℕ)} :
    iprop(owns (c : Thread nD τ) dq fullShare A ∗ owns (c : Thread nD τ) car fullShare B
      ∗ ((∃ A B, ⌜Filled (s := S1x64x2560) 2 640 T16 (g.val + 1) A ∧ Filled (s := S64x2560) 1 640 T31 (g.val + 1) B ∧ ∀ i : S64x2560.Idx, 640 * (g.val + 1) ≤ (i 1).val → B i = C i⌝ ∗ owns (c : Thread nD τ) dq fullShare A ∗ owns (c : Thread nD τ) car fullShare B) -∗ Q ⟨⟩))
      ⊢ WP c E (dqStage dq hdq car u a b d e g) Q := by
  have eC : (window (s := S64x2560) B ![0, 640 * g.val] S64x640.size (inbGd g)) = (window (s := S64x2560) C ![0, 640 * g.val] S64x640.size (inbGd g)) := window_congr fun i hi => hold i (hi 1).1
  unfold dqStage
  simp only [Prog.bind_lift, Prog.lift]
  iintro ⟨H1, H2, Hk⟩
  iapply (wp_ld c E (m := car)) $$ H2; iintro H2
  rw [eC]
  iapply (wp_ld c E (m := dq)) $$ H1; iintro H1
  iapply (wp_st c E (m := dq)) $$ H1; iintro H1
  iapply (wp_ld c E (m := car)) $$ H2; iintro H2
  iapply (wp_st c E (m := car)) $$ H2; iintro H2
  iapply (exec_ret_intro c E)
  iapply Hk
  iexists _; iexists _
  isplitr
  · ipureintro
    refine ⟨put_tile (size := S1x64x640.size) (s := S1x64x2560) 2 640 g.val rfl rfl (oth2 _ rfl rfl) h16 hQ, put_tile (size := S64x640.size) (s := S64x2560) 1 640 g.val rfl rfl (oth1 _ rfl) h31 hC, fun i hi => ?_⟩
    rw [put_beyond (s := S64x2560) 1 640 g.val rfl rfl i hi]
    refine hold i ?_
    omega
  isplitl [H1]; · iexact H1
  iexact H2

/-- One group: what is filled before and after. -/
theorem groupStage_spec {wkt : Memref sig .tc .vmem S2560x896 .fp8e4m3} {wvt : Memref sig .tc .vmem S2560x896 .fp8e4m3} {wks : Memref sig .tc .vmem S2560x128 .f32} {wvs : Memref sig .tc .vmem S2560x128 .f32} {xt : Memref sig .tc .vmem S2560x128 .bf16} {kt : Memref sig .tc .vmem S2560x256 .bf16} {hkt : kt.IsWhole} {vt : Memref sig .tc .vmem S2560x256 .bf16} {hvt : vt.IsWhole} {dkt : Memref sig .tc .vmem S2560x256 .bf16} {hdkt : dkt.IsWhole} {dvt : Memref sig .tc .vmem S2560x256 .bf16} {hdvt : dvt.IsWhole} {dq : Memref sig .tc .vmem S1x64x2560 .bf16} {hdq : dq.IsWhole} {car : Memref sig .tc .vmem S64x2560 .f32} {u : BitVec 32} {es : FVec F S1x256 .f32} {emb : FVec F S256x896 .fp8e4m3} {qs : FVec F S64x16 .f32} {dosR : FVec F S1x128 .f32}
    {V20 V21 : Vec F S2560x896 .fp8e4m3} {V24 V25 : Vec F S2560x128 .f32} {T26 : Vec F S2560x128 .bf16} {T27 T28 T29 T30 : Vec F S2560x256 .bf16} {C T31 : Vec F S64x2560 .f32} {T16 : Vec F S1x64x2560 .bf16}
    (hPk : ∀ (g : Fin 4) (i : S2560x256.Idx) (h : ∀ b, (![640 * g.val, 0] : Fin 2 → ℕ) b ≤ (i b).val ∧ (i b).val < (![640 * g.val, 0] : Fin 2 → ℕ) b + S640x256.size b), pProj es emb (window (s := S2560x896) V20 ![640 * g.val, 0] S640x896.size (inbGw g)) (window (s := S2560x128) V24 ![640 * g.val, 0] S640x128.size (inbGs g)) (Rect.unitLocal (s := S2560x256) i h) = T27 i)
    (hPv : ∀ (g : Fin 4) (i : S2560x256.Idx) (h : ∀ b, (![640 * g.val, 0] : Fin 2 → ℕ) b ≤ (i b).val ∧ (i b).val < (![640 * g.val, 0] : Fin 2 → ℕ) b + S640x256.size b), pProj es emb (window (s := S2560x896) V21 ![640 * g.val, 0] S640x896.size (inbGw g)) (window (s := S2560x128) V25 ![640 * g.val, 0] S640x128.size (inbGs g)) (Rect.unitLocal (s := S2560x256) i h) = T28 i)
    (hK : ∀ (h : Fin 16) (i : S2560x256.Idx) (hi : ∀ b, (![160 * h.val, 0] : Fin 2 → ℕ) b ≤ (i b).val ∧ (i b).val < (![160 * h.val, 0] : Fin 2 → ℕ) b + S160x256.size b), hDk h qs dosR (pLive u) (window (s := S2560x128) T26 ![160 * (h).val, 0] S160x128.size (inbHx (h))) (window (s := S2560x256) T27 ![160 * (h).val, 0] S160x256.size (inbHk (h))) (window (s := S2560x256) T28 ![160 * (h).val, 0] S160x256.size (inbHk (h))) (Rect.unitLocal (s := S2560x256) i hi) = T29 i)
    (hV : ∀ (h : Fin 16) (i : S2560x256.Idx) (hi : ∀ b, (![160 * h.val, 0] : Fin 2 → ℕ) b ≤ (i b).val ∧ (i b).val < (![160 * h.val, 0] : Fin 2 → ℕ) b + S160x256.size b), hDv h qs dosR (pLive u) (window (s := S2560x128) T26 ![160 * (h).val, 0] S160x128.size (inbHx (h))) (window (s := S2560x256) T27 ![160 * (h).val, 0] S160x256.size (inbHk (h))) (window (s := S2560x256) T28 ![160 * (h).val, 0] S160x256.size (inbHk (h))) (Rect.unitLocal (s := S2560x256) i hi) = T30 i)
    (hQ : ∀ (g : Fin 4) (i : S1x64x2560.Idx) (h : ∀ b, (![0, 0, 640 * g.val] : Fin 3 → ℕ) b ≤ (i b).val ∧ (i b).val < (![0, 0, 640 * g.val] : Fin 3 → ℕ) b + S1x64x640.size b), pDqOut u (pRoll (hDq (hd g 0) qs dosR (pLive u) (window (s := S2560x128) T26 ![160 * (hd g 0).val, 0] S160x128.size (inbHx (hd g 0))) (window (s := S2560x256) T27 ![160 * (hd g 0).val, 0] S160x256.size (inbHk (hd g 0))) (window (s := S2560x256) T28 ![160 * (hd g 0).val, 0] S160x256.size (inbHk (hd g 0)))) (hDq (hd g 1) qs dosR (pLive u) (window (s := S2560x128) T26 ![160 * (hd g 1).val, 0] S160x128.size (inbHx (hd g 1))) (window (s := S2560x256) T27 ![160 * (hd g 1).val, 0] S160x256.size (inbHk (hd g 1))) (window (s := S2560x256) T28 ![160 * (hd g 1).val, 0] S160x256.size (inbHk (hd g 1)))) (hDq (hd g 2) qs dosR (pLive u) (window (s := S2560x128) T26 ![160 * (hd g 2).val, 0] S160x128.size (inbHx (hd g 2))) (window (s := S2560x256) T27 ![160 * (hd g 2).val, 0] S160x256.size (inbHk (hd g 2))) (window (s := S2560x256) T28 ![160 * (hd g 2).val, 0] S160x256.size (inbHk (hd g 2)))) (hDq (hd g 3) qs dosR (pLive u) (window (s := S2560x128) T26 ![160 * (hd g 3).val, 0] S160x128.size (inbHx (hd g 3))) (window (s := S2560x256) T27 ![160 * (hd g 3).val, 0] S160x256.size (inbHk (hd g 3))) (window (s := S2560x256) T28 ![160 * (hd g 3).val, 0] S160x256.size (inbHk (hd g 3))))) (window (s := S64x2560) C ![0, 640 * g.val] S64x640.size (inbGd g)) (Rect.unitLocal (s := S1x64x2560) i h) = T16 i)
    (hC : ∀ (g : Fin 4) (i : S64x2560.Idx) (h : ∀ b, (![0, 640 * g.val] : Fin 2 → ℕ) b ≤ (i b).val ∧ (i b).val < (![0, 640 * g.val] : Fin 2 → ℕ) b + S64x640.size b), pCarry (pRoll (hDq (hd g 0) qs dosR (pLive u) (window (s := S2560x128) T26 ![160 * (hd g 0).val, 0] S160x128.size (inbHx (hd g 0))) (window (s := S2560x256) T27 ![160 * (hd g 0).val, 0] S160x256.size (inbHk (hd g 0))) (window (s := S2560x256) T28 ![160 * (hd g 0).val, 0] S160x256.size (inbHk (hd g 0)))) (hDq (hd g 1) qs dosR (pLive u) (window (s := S2560x128) T26 ![160 * (hd g 1).val, 0] S160x128.size (inbHx (hd g 1))) (window (s := S2560x256) T27 ![160 * (hd g 1).val, 0] S160x256.size (inbHk (hd g 1))) (window (s := S2560x256) T28 ![160 * (hd g 1).val, 0] S160x256.size (inbHk (hd g 1)))) (hDq (hd g 2) qs dosR (pLive u) (window (s := S2560x128) T26 ![160 * (hd g 2).val, 0] S160x128.size (inbHx (hd g 2))) (window (s := S2560x256) T27 ![160 * (hd g 2).val, 0] S160x256.size (inbHk (hd g 2))) (window (s := S2560x256) T28 ![160 * (hd g 2).val, 0] S160x256.size (inbHk (hd g 2)))) (hDq (hd g 3) qs dosR (pLive u) (window (s := S2560x128) T26 ![160 * (hd g 3).val, 0] S160x128.size (inbHx (hd g 3))) (window (s := S2560x256) T27 ![160 * (hd g 3).val, 0] S160x256.size (inbHk (hd g 3))) (window (s := S2560x256) T28 ![160 * (hd g 3).val, 0] S160x256.size (inbHk (hd g 3))))) (Rect.unitLocal (s := S64x2560) i h) = T31 i)
    (g : Fin 4) {Q : PUnit → sProp (MT nD τ sig Unit (Elt F) ℕ (UR sig nD τ) ℕ)} :
    iprop((owns (c : Thread nD τ) wkt fullShare V20 ∗ owns (c : Thread nD τ) wvt fullShare V21 ∗ owns (c : Thread nD τ) wks fullShare V24 ∗ owns (c : Thread nD τ) wvs fullShare V25 ∗ owns (c : Thread nD τ) xt fullShare T26 ∗ ∃ K V A B D R, ⌜(Filled (s := S2560x256) 0 640 T27 (g.val) K ∧ Filled (s := S2560x256) 0 640 T28 (g.val) V) ∧ (Filled (s := S2560x256) 0 160 T29 (4 * (g.val)) A ∧ Filled (s := S2560x256) 0 160 T30 (4 * (g.val)) B) ∧ Filled (s := S1x64x2560) 2 640 T16 (g.val) D ∧ Filled (s := S64x2560) 1 640 T31 (g.val) R ∧ ∀ i : S64x2560.Idx, 640 * (g.val) ≤ (i 1).val → R i = C i⌝ ∗ owns (c : Thread nD τ) kt fullShare K ∗ owns (c : Thread nD τ) vt fullShare V ∗ owns (c : Thread nD τ) dkt fullShare A ∗ owns (c : Thread nD τ) dvt fullShare B ∗ owns (c : Thread nD τ) dq fullShare D ∗ owns (c : Thread nD τ) car fullShare R)
      ∗ ((owns (c : Thread nD τ) wkt fullShare V20 ∗ owns (c : Thread nD τ) wvt fullShare V21 ∗ owns (c : Thread nD τ) wks fullShare V24 ∗ owns (c : Thread nD τ) wvs fullShare V25 ∗ owns (c : Thread nD τ) xt fullShare T26 ∗ ∃ K V A B D R, ⌜(Filled (s := S2560x256) 0 640 T27 (g.val + 1) K ∧ Filled (s := S2560x256) 0 640 T28 (g.val + 1) V) ∧ (Filled (s := S2560x256) 0 160 T29 (4 * (g.val + 1)) A ∧ Filled (s := S2560x256) 0 160 T30 (4 * (g.val + 1)) B) ∧ Filled (s := S1x64x2560) 2 640 T16 (g.val + 1) D ∧ Filled (s := S64x2560) 1 640 T31 (g.val + 1) R ∧ ∀ i : S64x2560.Idx, 640 * (g.val + 1) ≤ (i 1).val → R i = C i⌝ ∗ owns (c : Thread nD τ) kt fullShare K ∗ owns (c : Thread nD τ) vt fullShare V ∗ owns (c : Thread nD τ) dkt fullShare A ∗ owns (c : Thread nD τ) dvt fullShare B ∗ owns (c : Thread nD τ) dq fullShare D ∗ owns (c : Thread nD τ) car fullShare R) -∗ Q ⟨⟩))
      ⊢ WP c E (groupStage wkt wvt wks wvs xt kt hkt vt hvt dkt hdkt dvt hdvt dq hdq car u es emb qs dosR g) Q := by
  unfold groupStage
  iintro ⟨⟨H1, H2, H3, H4, H5, %K, %V, %A, %B, %D, %R, %hf, H6, H7, H8, H9, H10, H11⟩, Hk⟩
  obtain ⟨⟨f27, f28⟩, ⟨a0, b0⟩, f16, f31, fold⟩ := hf
  unfold WP
  rw [wp_bind]
  iapply (projStage_spec c E hPk g f27)
  isplitl [H1]; · iexact H1
  isplitl [H3]; · iexact H3
  isplitl [H6]; · iexact H6
  iintro ⟨H1, H3, %K', %h27, H6⟩
  rw [wp_bind]
  iapply (projStage_spec c E hPv g f28)
  isplitl [H2]; · iexact H2
  isplitl [H4]; · iexact H4
  isplitl [H7]; · iexact H7
  iintro ⟨H2, H4, %V', %h28, H7⟩
  rw [wp_bind]
  iapply (headStage_spec c E (T27 := T27) (T28 := T28) hK hV g 0 h27 h28 a0 b0)
  isplitl [H5]; · iexact H5
  isplitl [H6]; · iexact H6
  isplitl [H7]; · iexact H7
  isplitl [H8]; · iexact H8
  isplitl [H9]; · iexact H9
  iintro ⟨H5, H6, H7, %A0, %B0, %hf0, H8, H9⟩
  have a1 : Filled (s := S2560x256) 0 160 T29 (4 * g.val + 1) A0 := hf0.1
  have b1 : Filled (s := S2560x256) 0 160 T30 (4 * g.val + 1) B0 := hf0.2
  rw [wp_bind]
  iapply (headStage_spec c E (T27 := T27) (T28 := T28) hK hV g 1 h27 h28 a1 b1)
  isplitl [H5]; · iexact H5
  isplitl [H6]; · iexact H6
  isplitl [H7]; · iexact H7
  isplitl [H8]; · iexact H8
  isplitl [H9]; · iexact H9
  iintro ⟨H5, H6, H7, %A1, %B1, %hf1, H8, H9⟩
  have a2 : Filled (s := S2560x256) 0 160 T29 (4 * g.val + 2) A1 := hf1.1
  have b2 : Filled (s := S2560x256) 0 160 T30 (4 * g.val + 2) B1 := hf1.2
  rw [wp_bind]
  iapply (headStage_spec c E (T27 := T27) (T28 := T28) hK hV g 2 h27 h28 a2 b2)
  isplitl [H5]; · iexact H5
  isplitl [H6]; · iexact H6
  isplitl [H7]; · iexact H7
  isplitl [H8]; · iexact H8
  isplitl [H9]; · iexact H9
  iintro ⟨H5, H6, H7, %A2, %B2, %hf2, H8, H9⟩
  have a3 : Filled (s := S2560x256) 0 160 T29 (4 * g.val + 3) A2 := hf2.1
  have b3 : Filled (s := S2560x256) 0 160 T30 (4 * g.val + 3) B2 := hf2.2
  rw [wp_bind]
  iapply (headStage_spec c E (T27 := T27) (T28 := T28) hK hV g 3 h27 h28 a3 b3)
  isplitl [H5]; · iexact H5
  isplitl [H6]; · iexact H6
  isplitl [H7]; · iexact H7
  isplitl [H8]; · iexact H8
  isplitl [H9]; · iexact H9
  iintro ⟨H5, H6, H7, %A3, %B3, %hf3, H8, H9⟩
  have a4 : Filled (s := S2560x256) 0 160 T29 (4 * g.val + 4) A3 := hf3.1
  have b4 : Filled (s := S2560x256) 0 160 T30 (4 * g.val + 4) B3 := hf3.2
  iapply (dqStage_spec c E (C := C) g (hQ g) (hC g) f16 f31 fold)
  isplitl [H10]; · iexact H10
  isplitl [H11]; · iexact H11
  iintro ⟨%D', %R', %hg, H10, H11⟩
  iapply Hk
  isplitl [H1]; · iexact H1
  isplitl [H2]; · iexact H2
  isplitl [H3]; · iexact H3
  isplitl [H4]; · iexact H4
  isplitl [H5]; · iexact H5
  iexists K'; iexists V'; iexists A3; iexists B3; iexists D'; iexists R'
  isplitr
  · ipureintro
    exact ⟨⟨h27, h28⟩, ⟨a4, b4⟩, hg⟩
  isplitl [H6]; · iexact H6
  isplitl [H7]; · iexact H7
  isplitl [H8]; · iexact H8
  isplitl [H9]; · iexact H9
  isplitl [H10]; · iexact H10
  iexact H11

/-- The four groups. -/
theorem groups_spec {wkt : Memref sig .tc .vmem S2560x896 .fp8e4m3} {wvt : Memref sig .tc .vmem S2560x896 .fp8e4m3} {wks : Memref sig .tc .vmem S2560x128 .f32} {wvs : Memref sig .tc .vmem S2560x128 .f32} {xt : Memref sig .tc .vmem S2560x128 .bf16} {kt : Memref sig .tc .vmem S2560x256 .bf16} {hkt : kt.IsWhole} {vt : Memref sig .tc .vmem S2560x256 .bf16} {hvt : vt.IsWhole} {dkt : Memref sig .tc .vmem S2560x256 .bf16} {hdkt : dkt.IsWhole} {dvt : Memref sig .tc .vmem S2560x256 .bf16} {hdvt : dvt.IsWhole} {dq : Memref sig .tc .vmem S1x64x2560 .bf16} {hdq : dq.IsWhole} {car : Memref sig .tc .vmem S64x2560 .f32} {u : BitVec 32} {es : FVec F S1x256 .f32} {emb : FVec F S256x896 .fp8e4m3} {qs : FVec F S64x16 .f32} {dosR : FVec F S1x128 .f32}
    {V20 V21 : Vec F S2560x896 .fp8e4m3} {V24 V25 : Vec F S2560x128 .f32} {T26 : Vec F S2560x128 .bf16} {T27 T28 T29 T30 : Vec F S2560x256 .bf16} {C T31 : Vec F S64x2560 .f32} {T16 : Vec F S1x64x2560 .bf16}
    (hPk : ∀ (g : Fin 4) (i : S2560x256.Idx) (h : ∀ b, (![640 * g.val, 0] : Fin 2 → ℕ) b ≤ (i b).val ∧ (i b).val < (![640 * g.val, 0] : Fin 2 → ℕ) b + S640x256.size b), pProj es emb (window (s := S2560x896) V20 ![640 * g.val, 0] S640x896.size (inbGw g)) (window (s := S2560x128) V24 ![640 * g.val, 0] S640x128.size (inbGs g)) (Rect.unitLocal (s := S2560x256) i h) = T27 i)
    (hPv : ∀ (g : Fin 4) (i : S2560x256.Idx) (h : ∀ b, (![640 * g.val, 0] : Fin 2 → ℕ) b ≤ (i b).val ∧ (i b).val < (![640 * g.val, 0] : Fin 2 → ℕ) b + S640x256.size b), pProj es emb (window (s := S2560x896) V21 ![640 * g.val, 0] S640x896.size (inbGw g)) (window (s := S2560x128) V25 ![640 * g.val, 0] S640x128.size (inbGs g)) (Rect.unitLocal (s := S2560x256) i h) = T28 i)
    (hK : ∀ (h : Fin 16) (i : S2560x256.Idx) (hi : ∀ b, (![160 * h.val, 0] : Fin 2 → ℕ) b ≤ (i b).val ∧ (i b).val < (![160 * h.val, 0] : Fin 2 → ℕ) b + S160x256.size b), hDk h qs dosR (pLive u) (window (s := S2560x128) T26 ![160 * (h).val, 0] S160x128.size (inbHx (h))) (window (s := S2560x256) T27 ![160 * (h).val, 0] S160x256.size (inbHk (h))) (window (s := S2560x256) T28 ![160 * (h).val, 0] S160x256.size (inbHk (h))) (Rect.unitLocal (s := S2560x256) i hi) = T29 i)
    (hV : ∀ (h : Fin 16) (i : S2560x256.Idx) (hi : ∀ b, (![160 * h.val, 0] : Fin 2 → ℕ) b ≤ (i b).val ∧ (i b).val < (![160 * h.val, 0] : Fin 2 → ℕ) b + S160x256.size b), hDv h qs dosR (pLive u) (window (s := S2560x128) T26 ![160 * (h).val, 0] S160x128.size (inbHx (h))) (window (s := S2560x256) T27 ![160 * (h).val, 0] S160x256.size (inbHk (h))) (window (s := S2560x256) T28 ![160 * (h).val, 0] S160x256.size (inbHk (h))) (Rect.unitLocal (s := S2560x256) i hi) = T30 i)
    (hQ : ∀ (g : Fin 4) (i : S1x64x2560.Idx) (h : ∀ b, (![0, 0, 640 * g.val] : Fin 3 → ℕ) b ≤ (i b).val ∧ (i b).val < (![0, 0, 640 * g.val] : Fin 3 → ℕ) b + S1x64x640.size b), pDqOut u (pRoll (hDq (hd g 0) qs dosR (pLive u) (window (s := S2560x128) T26 ![160 * (hd g 0).val, 0] S160x128.size (inbHx (hd g 0))) (window (s := S2560x256) T27 ![160 * (hd g 0).val, 0] S160x256.size (inbHk (hd g 0))) (window (s := S2560x256) T28 ![160 * (hd g 0).val, 0] S160x256.size (inbHk (hd g 0)))) (hDq (hd g 1) qs dosR (pLive u) (window (s := S2560x128) T26 ![160 * (hd g 1).val, 0] S160x128.size (inbHx (hd g 1))) (window (s := S2560x256) T27 ![160 * (hd g 1).val, 0] S160x256.size (inbHk (hd g 1))) (window (s := S2560x256) T28 ![160 * (hd g 1).val, 0] S160x256.size (inbHk (hd g 1)))) (hDq (hd g 2) qs dosR (pLive u) (window (s := S2560x128) T26 ![160 * (hd g 2).val, 0] S160x128.size (inbHx (hd g 2))) (window (s := S2560x256) T27 ![160 * (hd g 2).val, 0] S160x256.size (inbHk (hd g 2))) (window (s := S2560x256) T28 ![160 * (hd g 2).val, 0] S160x256.size (inbHk (hd g 2)))) (hDq (hd g 3) qs dosR (pLive u) (window (s := S2560x128) T26 ![160 * (hd g 3).val, 0] S160x128.size (inbHx (hd g 3))) (window (s := S2560x256) T27 ![160 * (hd g 3).val, 0] S160x256.size (inbHk (hd g 3))) (window (s := S2560x256) T28 ![160 * (hd g 3).val, 0] S160x256.size (inbHk (hd g 3))))) (window (s := S64x2560) C ![0, 640 * g.val] S64x640.size (inbGd g)) (Rect.unitLocal (s := S1x64x2560) i h) = T16 i)
    (hC : ∀ (g : Fin 4) (i : S64x2560.Idx) (h : ∀ b, (![0, 640 * g.val] : Fin 2 → ℕ) b ≤ (i b).val ∧ (i b).val < (![0, 640 * g.val] : Fin 2 → ℕ) b + S64x640.size b), pCarry (pRoll (hDq (hd g 0) qs dosR (pLive u) (window (s := S2560x128) T26 ![160 * (hd g 0).val, 0] S160x128.size (inbHx (hd g 0))) (window (s := S2560x256) T27 ![160 * (hd g 0).val, 0] S160x256.size (inbHk (hd g 0))) (window (s := S2560x256) T28 ![160 * (hd g 0).val, 0] S160x256.size (inbHk (hd g 0)))) (hDq (hd g 1) qs dosR (pLive u) (window (s := S2560x128) T26 ![160 * (hd g 1).val, 0] S160x128.size (inbHx (hd g 1))) (window (s := S2560x256) T27 ![160 * (hd g 1).val, 0] S160x256.size (inbHk (hd g 1))) (window (s := S2560x256) T28 ![160 * (hd g 1).val, 0] S160x256.size (inbHk (hd g 1)))) (hDq (hd g 2) qs dosR (pLive u) (window (s := S2560x128) T26 ![160 * (hd g 2).val, 0] S160x128.size (inbHx (hd g 2))) (window (s := S2560x256) T27 ![160 * (hd g 2).val, 0] S160x256.size (inbHk (hd g 2))) (window (s := S2560x256) T28 ![160 * (hd g 2).val, 0] S160x256.size (inbHk (hd g 2)))) (hDq (hd g 3) qs dosR (pLive u) (window (s := S2560x128) T26 ![160 * (hd g 3).val, 0] S160x128.size (inbHx (hd g 3))) (window (s := S2560x256) T27 ![160 * (hd g 3).val, 0] S160x256.size (inbHk (hd g 3))) (window (s := S2560x256) T28 ![160 * (hd g 3).val, 0] S160x256.size (inbHk (hd g 3))))) (Rect.unitLocal (s := S64x2560) i h) = T31 i)
    {K V A B : Vec F S2560x256 .bf16} {D : Vec F S1x64x2560 .bf16} {Q : PUnit → sProp (MT nD τ sig Unit (Elt F) ℕ (UR sig nD τ) ℕ)} :
    iprop(owns (c : Thread nD τ) wkt fullShare V20 ∗ owns (c : Thread nD τ) wvt fullShare V21 ∗ owns (c : Thread nD τ) wks fullShare V24 ∗ owns (c : Thread nD τ) wvs fullShare V25 ∗ owns (c : Thread nD τ) xt fullShare T26 ∗ owns (c : Thread nD τ) kt fullShare K ∗ owns (c : Thread nD τ) vt fullShare V ∗ owns (c : Thread nD τ) dkt fullShare A ∗ owns (c : Thread nD τ) dvt fullShare B ∗ owns (c : Thread nD τ) dq fullShare D ∗ owns (c : Thread nD τ) car fullShare C
      ∗ ((owns (c : Thread nD τ) wkt fullShare V20 ∗ owns (c : Thread nD τ) wvt fullShare V21 ∗ owns (c : Thread nD τ) wks fullShare V24 ∗ owns (c : Thread nD τ) wvs fullShare V25 ∗ owns (c : Thread nD τ) xt fullShare T26 ∗ owns (c : Thread nD τ) kt fullShare T27 ∗ owns (c : Thread nD τ) vt fullShare T28 ∗ owns (c : Thread nD τ) dkt fullShare T29 ∗ owns (c : Thread nD τ) dvt fullShare T30 ∗ owns (c : Thread nD τ) dq fullShare T16 ∗ owns (c : Thread nD τ) car fullShare T31) -∗ Q ⟨⟩))
      ⊢ WP c E (iter 4 (groupStage wkt wvt wks wvs xt kt hkt vt hvt dkt hdkt dvt hdvt dq hdq car u es emb qs dosR)) Q := by
  let I : ℕ → sProp (MT nD τ sig Unit (Elt F) ℕ (UR sig nD τ) ℕ) := fun k =>
    iprop(owns (c : Thread nD τ) wkt fullShare V20 ∗ owns (c : Thread nD τ) wvt fullShare V21 ∗ owns (c : Thread nD τ) wks fullShare V24 ∗ owns (c : Thread nD τ) wvs fullShare V25 ∗ owns (c : Thread nD τ) xt fullShare T26 ∗ ∃ K V A B D R, ⌜(Filled (s := S2560x256) 0 640 T27 (k) K ∧ Filled (s := S2560x256) 0 640 T28 (k) V) ∧ (Filled (s := S2560x256) 0 160 T29 (4 * (k)) A ∧ Filled (s := S2560x256) 0 160 T30 (4 * (k)) B) ∧ Filled (s := S1x64x2560) 2 640 T16 (k) D ∧ Filled (s := S64x2560) 1 640 T31 (k) R ∧ ∀ i : S64x2560.Idx, 640 * (k) ≤ (i 1).val → R i = C i⌝ ∗ owns (c : Thread nD τ) kt fullShare K ∗ owns (c : Thread nD τ) vt fullShare V ∗ owns (c : Thread nD τ) dkt fullShare A ∗ owns (c : Thread nD τ) dvt fullShare B ∗ owns (c : Thread nD τ) dq fullShare D ∗ owns (c : Thread nD τ) car fullShare R)
  have step := wp_iter c E I 4 (groupStage wkt wvt wks wvs xt kt hkt vt hvt dkt hdkt dvt hdvt dq hdq car u es emb qs dosR) 0 (by
    intro g Q
    rw [Nat.zero_add]
    exact groupStage_spec c E hPk hPv hK hV hQ hC g) Q
  iintro ⟨H1, H2, H3, H4, H5, H6, H7, H8, H9, H10, H11, Hk⟩
  iapply step
  isplitl [H1 H2 H3 H4 H5 H6 H7 H8 H9 H10 H11]
  · isplitl [H1]; · iexact H1
    isplitl [H2]; · iexact H2
    isplitl [H3]; · iexact H3
    isplitl [H4]; · iexact H4
    isplitl [H5]; · iexact H5
    iexists K; iexists V; iexists A; iexists B; iexists D; iexists C
    isplitr
    · ipureintro
      exact ⟨⟨.zero, .zero⟩, ⟨.zero, .zero⟩, .zero, .zero, fun _ _ => rfl⟩
    isplitl [H6]; · iexact H6
    isplitl [H7]; · iexact H7
    isplitl [H8]; · iexact H8
    isplitl [H9]; · iexact H9
    isplitl [H10]; · iexact H10
    iexact H11
  iintro ⟨H1, H2, H3, H4, H5, %K', %V', %A', %B', %D', %R', %hf, H6, H7, H8, H9, H10, H11⟩
  obtain ⟨⟨f27, f28⟩, ⟨f29, f30⟩, f16, f31, _⟩ := hf
  have e1 := f27.all (by decide)
  have e2 := f28.all (by decide)
  have e3 := f29.all (by decide)
  have e4 := f30.all (by decide)
  have e5 := f16.all (by decide)
  have e6 := f31.all (by decide)
  rw [e1, e2, e3, e4, e5, e6]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The gradient of the neighbours. -/
theorem dembStage_spec {wkd : Memref sig .tc .vmem S896x2560 .bf16} {wvd : Memref sig .tc .vmem S896x2560 .bf16} {dkt : Memref sig .tc .vmem S2560x256 .bf16} {dvt : Memref sig .tc .vmem S2560x256 .bf16} {de : Memref sig .tc .vmem S1x1x256x896 .bf16} {hde : de.IsWhole}
    {V22 V23 : Vec F S896x2560 .bf16} {T29 T30 : Vec F S2560x256 .bf16} {A T17 : Vec F S1x1x256x896 .bf16}
    (hE : ∀ (i : S1x1x256x896.Idx) (h : ∀ b, (![0, 0, 0, 0] : Fin 4 → ℕ) b ≤ (i b).val ∧ (i b).val < (![0, 0, 0, 0] : Fin 4 → ℕ) b + S1x1x256x896.size b), pDemb (window (s := S896x2560) V22 ![0, 0] S896x2560.size inb_S896x2560_S896x2560_0_0) (window (s := S2560x256) T29 ![0, 0] S2560x256.size inb_S2560x256_S2560x256_0_0) (window (s := S896x2560) V23 ![0, 0] S896x2560.size inb_S896x2560_S896x2560_0_0) (window (s := S2560x256) T30 ![0, 0] S2560x256.size inb_S2560x256_S2560x256_0_0) (Rect.unitLocal (s := S1x1x256x896) i h) = T17 i) {Q : PUnit → sProp (MT nD τ sig Unit (Elt F) ℕ (UR sig nD τ) ℕ)} :
    iprop(owns (c : Thread nD τ) wkd fullShare V22 ∗ owns (c : Thread nD τ) wvd fullShare V23 ∗ owns (c : Thread nD τ) dkt fullShare T29 ∗ owns (c : Thread nD τ) dvt fullShare T30 ∗ owns (c : Thread nD τ) de fullShare A ∗ ((owns (c : Thread nD τ) wkd fullShare V22 ∗ owns (c : Thread nD τ) wvd fullShare V23 ∗ owns (c : Thread nD τ) dkt fullShare T29 ∗ owns (c : Thread nD τ) dvt fullShare T30 ∗ owns (c : Thread nD τ) de fullShare T17) -∗ Q ⟨⟩)) ⊢ WP c E (dembStage wkd wvd dkt dvt de hde) Q := by
  unfold dembStage
  simp only [Prog.bind_lift, Prog.lift]
  iintro ⟨H1, H2, H3, H4, H5, Hk⟩
  iapply (wp_ld c E (m := wkd)) $$ H1; iintro H1
  iapply (wp_ld c E (m := dkt)) $$ H3; iintro H3
  iapply (wp_ld c E (m := wvd)) $$ H2; iintro H2
  iapply (wp_ld c E (m := dvt)) $$ H4; iintro H4
  iapply (wp_ld c E (m := de)) $$ H5; iintro H5
  iapply (wp_st c E (m := de)) $$ H5; iintro H5
  iapply (exec_ret_intro c E)
  rw [put_full (s := S1x1x256x896) (T := T17) (by decide) (by decide) hE]
  iapply Hk
  isplitl [H1]; · iexact H1
  isplitl [H2]; · iexact H2
  isplitl [H3]; · iexact H3
  isplitl [H4]; · iexact H4
  iexact H5

/-- The gradient of a weight matrix. -/
theorem dwStage_spec {dt : Memref sig .tc .vmem S2560x256 .bf16} {dw : Memref sig .tc .vmem S896x2560 .f32} {ed : FVec F S896x256 .bf16} {T : Vec F S2560x256 .bf16} {D T' : Vec F S896x2560 .f32}
    (hW : ∀ (i : S896x2560.Idx) (h : ∀ b, (![0, 0] : Fin 2 → ℕ) b ≤ (i b).val ∧ (i b).val < (![0, 0] : Fin 2 → ℕ) b + S896x2560.size b), pDw ed (window (s := S896x2560) D ![0, 0] S896x2560.size inb_S896x2560_S896x2560_0_0) (window (s := S2560x256) T ![0, 0] S2560x256.size inb_S2560x256_S2560x256_0_0) (Rect.unitLocal (s := S896x2560) i h) = T' i) {Q : PUnit → sProp (MT nD τ sig Unit (Elt F) ℕ (UR sig nD τ) ℕ)} :
    iprop(owns (c : Thread nD τ) dt fullShare T ∗ owns (c : Thread nD τ) dw fullShare D ∗ ((owns (c : Thread nD τ) dt fullShare T ∗ owns (c : Thread nD τ) dw fullShare T') -∗ Q ⟨⟩)) ⊢ WP c E (dwStage dt dw ed) Q := by
  unfold dwStage
  simp only [Prog.bind_lift, Prog.lift]
  iintro ⟨H1, H2, Hk⟩
  iapply (wp_ld c E (m := dw)) $$ H2; iintro H2
  iapply (wp_ld c E (m := dt)) $$ H1; iintro H1
  iapply (wp_ld c E (m := dw)) $$ H2; iintro H2
  iapply (wp_st c E (m := dw)) $$ H2; iintro H2
  iapply (exec_ret_intro c E)
  rw [put_full (s := S896x2560) (T := T') (by decide) (by decide) hW]
  iapply Hk
  isplitl [H1]; · iexact H1
  iexact H2

end Cert.KernelIdeal.Hand
-- ==== Proof.KIdeal.Blocks.lean ====
module

public import proofs.«01_k».proof.Proof.KIdeal.Stages
public import Idealize.ShloMosaic.Lib.VecWindow

/-! # What a point leaves in every buffer

Every buffer of a point as a function of the blocks the point is given. A buffer stored tile by tile is glued from its
tiles. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow

variable {F : FTy → Type} [FloatOps F]

section Glue

variable {s : Shape} {α : Type}

theorem glue_in {a : Fin s.rank} {W n : ℕ} {off : Fin n → Fin s.rank → ℕ} {size : Fin s.rank → ℕ} (hn : s.size a ≤ W * n)
    (ho : ∀ j, off j a = W * j.val) (hs : size a = W) (hb : ∀ j b, b ≠ a → off j b = 0 ∧ size b = s.size b) (i : s.Idx) (hj : (i a).val / W < n) (b : Fin s.rank) :
    off ⟨(i a).val / W, hj⟩ b ≤ (i b).val ∧ (i b).val < off ⟨(i a).val / W, hj⟩ b + size b := by
  have hW : 0 < W := Nat.pos_of_ne_zero fun h => by
    subst h
    have := (i a).isLt
    omega
  by_cases e : b = a
  · subst e
    rw [ho, hs]
    have h1 := Nat.div_add_mod (i b).val W
    have h2 := Nat.mod_lt (i b).val hW
    dsimp only
    generalize W * ((i b).val / W) = p at h1 ⊢
    omega
  · obtain ⟨h1, h2⟩ := hb ⟨(i a).val / W, hj⟩ b e
    rw [h1, h2]
    exact ⟨Nat.zero_le _, by simpa using (i b).isLt⟩

/-- A buffer glued from its tiles along the axis `a`, each `W` long. -/
def glue (a : Fin s.rank) (W : ℕ) {n : ℕ} (off : Fin n → Fin s.rank → ℕ) (size : Fin s.rank → ℕ) (hn : s.size a ≤ W * n)
    (ho : ∀ j, off j a = W * j.val) (hs : size a = W) (hb : ∀ j b, b ≠ a → off j b = 0 ∧ size b = s.size b)
    (w : Fin n → ((b : Fin s.rank) → Fin (size b)) → α) : s.Idx → α := fun i =>
  have hj : (i a).val / W < n := Nat.div_lt_of_lt_mul (lt_of_lt_of_le (i a).isLt hn)
  w ⟨(i a).val / W, hj⟩ (Rect.unitLocal (s := s) i (glue_in hn ho hs hb i hj))

/-- The glued buffer holds every tile where the tile lies. -/
theorem glue_tile (a : Fin s.rank) (W : ℕ) {n : ℕ} {off : Fin n → Fin s.rank → ℕ} {size : Fin s.rank → ℕ}
    (ho : ∀ j, off j a = W * j.val) (hs : size a = W) (hn : s.size a ≤ W * n) (hb : ∀ j b, b ≠ a → off j b = 0 ∧ size b = s.size b)
    (w : Fin n → ((b : Fin s.rank) → Fin (size b)) → α) (j : Fin n) (i : s.Idx) (h : ∀ b, off j b ≤ (i b).val ∧ (i b).val < off j b + size b) :
    w j (Rect.unitLocal (s := s) i h) = glue a W off size hn ho hs hb w i := by
  have h1 := h a
  rw [ho, hs] at h1
  have e : j = ⟨(i a).val / W, Nat.div_lt_of_lt_mul (lt_of_lt_of_le (i a).isLt hn)⟩ :=
    Fin.ext (Nat.div_eq_of_lt_le (by rw [Nat.mul_comm]; exact h1.1) (by rw [Nat.mul_comm, Nat.mul_succ]; exact h1.2)).symm
  subst e
  rfl

/-- Off the axis of the tiles, a tile is as long as the buffer. -/
theorem off0 {s t : Fin 2 → ℕ} (n : ℕ) (h : t 1 = s 1) : ∀ b : Fin 2, b ≠ 0 → (![n, 0] : Fin 2 → ℕ) b = 0 ∧ t b = s b := by
  intro b hb
  fin_cases b
  · exact absurd rfl hb
  · exact ⟨rfl, h⟩

@[inherit_doc off0]
theorem off1 {s t : Fin 2 → ℕ} (n : ℕ) (h : t 0 = s 0) : ∀ b : Fin 2, b ≠ 1 → (![0, n] : Fin 2 → ℕ) b = 0 ∧ t b = s b := by
  intro b hb
  fin_cases b
  · exact ⟨rfl, h⟩
  · exact absurd rfl hb

@[inherit_doc off0]
theorem off2 {s t : Fin 3 → ℕ} (n : ℕ) (h0 : t 0 = s 0) (h1 : t 1 = s 1) : ∀ b : Fin 3, b ≠ 2 → (![0, 0, n] : Fin 3 → ℕ) b = 0 ∧ t b = s b := by
  intro b hb
  fin_cases b
  · exact ⟨rfl, h0⟩
  · exact ⟨rfl, h1⟩
  · exact absurd rfl hb

end Glue

/-- The blocks a point is given, and its chunk `u`. -/
structure Ins (F : FTy → Type) where
  u : BitVec 32
  x2 : Vec F S1x1x256x896 .fp8e4m3
  x3 : Vec F S1x1x2x128 .f32
  x4 : Vec F S1x64x2560 .fp8e4m3
  x5 : Vec F S1x64x2560 .fp8e4m3
  x6 : Vec F S1x64x2560 .fp8e5m2
  x7 : Vec F S1x64x2560 .fp8e5m2
  x8 : Vec F S1x64x16 .f32
  x9 : Vec F S1x64x16 .f32
  x10 : Vec F S1x1x64 .f32
  x11 : Vec F S1x1x64 .f32
  x12 : Vec F S896x2560 .fp8e4m3
  x13 : Vec F S896x2560 .fp8e4m3
  x14 : Vec F S1x2560 .f32
  x15 : Vec F S1x2560 .f32

/-- The scales of the chunk, as the kernel reads them. -/
def Ins.es (I : Ins F) : FVec F S1x256 .f32 :=
  pEs (window (s := S1x1x2x128) I.x3 ![0, 0, 0, 0] S1x1x1x128.size inb_S1x1x2x128_S1x1x1x128_0_0_0_0) (window (s := S1x1x2x128) I.x3 ![0, 0, 1, 0] S1x1x1x128.size inb_S1x1x2x128_S1x1x1x128_0_0_1_0)

/-- The chunk's neighbours. -/
def Ins.emb (I : Ins F) : FVec F S256x896 .fp8e4m3 :=
  pEmb (window (s := S1x1x256x896) I.x2 ![0, 0, 0, 0] S1x1x256x896.size inb_S1x1x256x896_S1x1x256x896_0_0_0_0)

/-- The scales of the queries. -/
def Ins.qs (I : Ins F) : FVec F S64x16 .f32 :=
  pQs (window (s := S1x64x16) I.x8 ![0, 0, 0] S1x64x16.size inb_S1x64x16_S1x64x16_0_0_0) (window (s := S1x64x16) I.x9 ![0, 0, 0] S1x64x16.size inb_S1x64x16_S1x64x16_0_0_0)

/-- The scales of the output gradients. -/
def Ins.dosR (I : Ins F) : FVec F S1x128 .f32 :=
  pDosRow (window (s := S1x1x64) I.x10 ![0, 0, 0] S1x1x64.size inb_S1x1x64_S1x1x64_0_0_0) (window (s := S1x1x64) I.x11 ![0, 0, 0] S1x1x64.size inb_S1x1x64_S1x1x64_0_0_0)

/-- The neighbours times their scales, transposed. -/
def Ins.ed (I : Ins F) : FVec F S896x256 .bf16 := pEd I.es I.emb

/-- The weights of the keys, transposed. -/
def Ins.T20 (I : Ins F) : Vec F S2560x896 .fp8e4m3 :=
  glue (s := S2560x896) 0 128 (n := 20) (fun j => ![128 * j.val, 0]) S128x896.size (by decide) (fun _ => rfl) rfl (fun j => off0 (s := S2560x896.size) (t := S128x896.size) (128 * j.val) rfl) fun j => pWt (window (s := S896x2560) I.x12 ![0, 128 * j.val] S896x128.size (inbWc j))

theorem Ins.T20_tile (I : Ins F) (j : Fin 20) (i : S2560x896.Idx) (h : ∀ b, (![128 * j.val, 0] : Fin 2 → ℕ) b ≤ (i b).val ∧ (i b).val < (![128 * j.val, 0] : Fin 2 → ℕ) b + S128x896.size b) :
    pWt (window (s := S896x2560) I.x12 ![0, 128 * j.val] S896x128.size (inbWc j)) (Rect.unitLocal (s := S2560x896) i h) = I.T20 i :=
  glue_tile (s := S2560x896) (size := S128x896.size) 0 128 (off := fun j => ![128 * j.val, 0]) (fun _ => rfl) rfl (by decide) (fun j => off0 (s := S2560x896.size) (t := S128x896.size) (128 * j.val) rfl) (fun j => pWt (window (s := S896x2560) I.x12 ![0, 128 * j.val] S896x128.size (inbWc j))) j i h

/-- The weights of the keys times their scales. -/
def Ins.T22 (I : Ins F) : Vec F S896x2560 .bf16 :=
  glue (s := S896x2560) 1 128 (n := 20) (fun j => ![0, 128 * j.val]) S896x128.size (by decide) (fun _ => rfl) rfl (fun j => off1 (s := S896x2560.size) (t := S896x128.size) (128 * j.val) rfl) fun j => pWd (window (s := S896x2560) I.x12 ![0, 128 * j.val] S896x128.size (inbWc j)) (window (s := S1x2560) I.x14 ![0, 128 * j.val] S1x128.size (inbWs j))

theorem Ins.T22_tile (I : Ins F) (j : Fin 20) (i : S896x2560.Idx) (h : ∀ b, (![0, 128 * j.val] : Fin 2 → ℕ) b ≤ (i b).val ∧ (i b).val < (![0, 128 * j.val] : Fin 2 → ℕ) b + S896x128.size b) :
    pWd (window (s := S896x2560) I.x12 ![0, 128 * j.val] S896x128.size (inbWc j)) (window (s := S1x2560) I.x14 ![0, 128 * j.val] S1x128.size (inbWs j)) (Rect.unitLocal (s := S896x2560) i h) = I.T22 i :=
  glue_tile (s := S896x2560) (size := S896x128.size) 1 128 (off := fun j => ![0, 128 * j.val]) (fun _ => rfl) rfl (by decide) (fun j => off1 (s := S896x2560.size) (t := S896x128.size) (128 * j.val) rfl) (fun j => pWd (window (s := S896x2560) I.x12 ![0, 128 * j.val] S896x128.size (inbWc j)) (window (s := S1x2560) I.x14 ![0, 128 * j.val] S1x128.size (inbWs j))) j i h

/-- The scales of the weights of the keys, as columns. -/
def Ins.T24 (I : Ins F) : Vec F S2560x128 .f32 :=
  glue (s := S2560x128) 0 128 (n := 20) (fun j => ![128 * j.val, 0]) S128x128.size (by decide) (fun _ => rfl) rfl (fun j => off0 (s := S2560x128.size) (t := S128x128.size) (128 * j.val) rfl) fun j => pSc (window (s := S1x2560) I.x14 ![0, 128 * j.val] S1x128.size (inbWs j))

theorem Ins.T24_tile (I : Ins F) (j : Fin 20) (i : S2560x128.Idx) (h : ∀ b, (![128 * j.val, 0] : Fin 2 → ℕ) b ≤ (i b).val ∧ (i b).val < (![128 * j.val, 0] : Fin 2 → ℕ) b + S128x128.size b) :
    pSc (window (s := S1x2560) I.x14 ![0, 128 * j.val] S1x128.size (inbWs j)) (Rect.unitLocal (s := S2560x128) i h) = I.T24 i :=
  glue_tile (s := S2560x128) (size := S128x128.size) 0 128 (off := fun j => ![128 * j.val, 0]) (fun _ => rfl) rfl (by decide) (fun j => off0 (s := S2560x128.size) (t := S128x128.size) (128 * j.val) rfl) (fun j => pSc (window (s := S1x2560) I.x14 ![0, 128 * j.val] S1x128.size (inbWs j))) j i h

/-- The weights of the values, transposed. -/
def Ins.T21 (I : Ins F) : Vec F S2560x896 .fp8e4m3 :=
  glue (s := S2560x896) 0 128 (n := 20) (fun j => ![128 * j.val, 0]) S128x896.size (by decide) (fun _ => rfl) rfl (fun j => off0 (s := S2560x896.size) (t := S128x896.size) (128 * j.val) rfl) fun j => pWt (window (s := S896x2560) I.x13 ![0, 128 * j.val] S896x128.size (inbWc j))

theorem Ins.T21_tile (I : Ins F) (j : Fin 20) (i : S2560x896.Idx) (h : ∀ b, (![128 * j.val, 0] : Fin 2 → ℕ) b ≤ (i b).val ∧ (i b).val < (![128 * j.val, 0] : Fin 2 → ℕ) b + S128x896.size b) :
    pWt (window (s := S896x2560) I.x13 ![0, 128 * j.val] S896x128.size (inbWc j)) (Rect.unitLocal (s := S2560x896) i h) = I.T21 i :=
  glue_tile (s := S2560x896) (size := S128x896.size) 0 128 (off := fun j => ![128 * j.val, 0]) (fun _ => rfl) rfl (by decide) (fun j => off0 (s := S2560x896.size) (t := S128x896.size) (128 * j.val) rfl) (fun j => pWt (window (s := S896x2560) I.x13 ![0, 128 * j.val] S896x128.size (inbWc j))) j i h

/-- The weights of the values times their scales. -/
def Ins.T23 (I : Ins F) : Vec F S896x2560 .bf16 :=
  glue (s := S896x2560) 1 128 (n := 20) (fun j => ![0, 128 * j.val]) S896x128.size (by decide) (fun _ => rfl) rfl (fun j => off1 (s := S896x2560.size) (t := S896x128.size) (128 * j.val) rfl) fun j => pWd (window (s := S896x2560) I.x13 ![0, 128 * j.val] S896x128.size (inbWc j)) (window (s := S1x2560) I.x15 ![0, 128 * j.val] S1x128.size (inbWs j))

theorem Ins.T23_tile (I : Ins F) (j : Fin 20) (i : S896x2560.Idx) (h : ∀ b, (![0, 128 * j.val] : Fin 2 → ℕ) b ≤ (i b).val ∧ (i b).val < (![0, 128 * j.val] : Fin 2 → ℕ) b + S896x128.size b) :
    pWd (window (s := S896x2560) I.x13 ![0, 128 * j.val] S896x128.size (inbWc j)) (window (s := S1x2560) I.x15 ![0, 128 * j.val] S1x128.size (inbWs j)) (Rect.unitLocal (s := S896x2560) i h) = I.T23 i :=
  glue_tile (s := S896x2560) (size := S896x128.size) 1 128 (off := fun j => ![0, 128 * j.val]) (fun _ => rfl) rfl (by decide) (fun j => off1 (s := S896x2560.size) (t := S896x128.size) (128 * j.val) rfl) (fun j => pWd (window (s := S896x2560) I.x13 ![0, 128 * j.val] S896x128.size (inbWc j)) (window (s := S1x2560) I.x15 ![0, 128 * j.val] S1x128.size (inbWs j))) j i h

/-- The scales of the weights of the values, as columns. -/
def Ins.T25 (I : Ins F) : Vec F S2560x128 .f32 :=
  glue (s := S2560x128) 0 128 (n := 20) (fun j => ![128 * j.val, 0]) S128x128.size (by decide) (fun _ => rfl) rfl (fun j => off0 (s := S2560x128.size) (t := S128x128.size) (128 * j.val) rfl) fun j => pSc (window (s := S1x2560) I.x15 ![0, 128 * j.val] S1x128.size (inbWs j))

theorem Ins.T25_tile (I : Ins F) (j : Fin 20) (i : S2560x128.Idx) (h : ∀ b, (![128 * j.val, 0] : Fin 2 → ℕ) b ≤ (i b).val ∧ (i b).val < (![128 * j.val, 0] : Fin 2 → ℕ) b + S128x128.size b) :
    pSc (window (s := S1x2560) I.x15 ![0, 128 * j.val] S1x128.size (inbWs j)) (Rect.unitLocal (s := S2560x128) i h) = I.T25 i :=
  glue_tile (s := S2560x128) (size := S128x128.size) 0 128 (off := fun j => ![128 * j.val, 0]) (fun _ => rfl) rfl (by decide) (fun j => off0 (s := S2560x128.size) (t := S128x128.size) (128 * j.val) rfl) (fun j => pSc (window (s := S1x2560) I.x15 ![0, 128 * j.val] S1x128.size (inbWs j))) j i h

/-- The queries and the output gradients of the chunk, transposed. -/
def Ins.T26 (I : Ins F) : Vec F S2560x128 .bf16 :=
  glue (s := S2560x128) 0 128 (n := 20) (fun j => ![128 * j.val, 0]) S128x128.size (by decide) (fun _ => rfl) rfl (fun j => off0 (s := S2560x128.size) (t := S128x128.size) (128 * j.val) rfl) fun j => pXt (window (s := S1x64x2560) I.x4 ![0, 0, 128 * j.val] S1x64x128.size (inbQ j)) (window (s := S1x64x2560) I.x5 ![0, 0, 128 * j.val] S1x64x128.size (inbQ j)) (window (s := S1x64x2560) I.x6 ![0, 0, 128 * j.val] S1x64x128.size (inbQ j)) (window (s := S1x64x2560) I.x7 ![0, 0, 128 * j.val] S1x64x128.size (inbQ j))

theorem Ins.T26_tile (I : Ins F) (j : Fin 20) (i : S2560x128.Idx) (h : ∀ b, (![128 * j.val, 0] : Fin 2 → ℕ) b ≤ (i b).val ∧ (i b).val < (![128 * j.val, 0] : Fin 2 → ℕ) b + S128x128.size b) :
    pXt (window (s := S1x64x2560) I.x4 ![0, 0, 128 * j.val] S1x64x128.size (inbQ j)) (window (s := S1x64x2560) I.x5 ![0, 0, 128 * j.val] S1x64x128.size (inbQ j)) (window (s := S1x64x2560) I.x6 ![0, 0, 128 * j.val] S1x64x128.size (inbQ j)) (window (s := S1x64x2560) I.x7 ![0, 0, 128 * j.val] S1x64x128.size (inbQ j)) (Rect.unitLocal (s := S2560x128) i h) = I.T26 i :=
  glue_tile (s := S2560x128) (size := S128x128.size) 0 128 (off := fun j => ![128 * j.val, 0]) (fun _ => rfl) rfl (by decide) (fun j => off0 (s := S2560x128.size) (t := S128x128.size) (128 * j.val) rfl) (fun j => pXt (window (s := S1x64x2560) I.x4 ![0, 0, 128 * j.val] S1x64x128.size (inbQ j)) (window (s := S1x64x2560) I.x5 ![0, 0, 128 * j.val] S1x64x128.size (inbQ j)) (window (s := S1x64x2560) I.x6 ![0, 0, 128 * j.val] S1x64x128.size (inbQ j)) (window (s := S1x64x2560) I.x7 ![0, 0, 128 * j.val] S1x64x128.size (inbQ j))) j i h

/-- The keys, transposed. -/
def Ins.T27 (I : Ins F) : Vec F S2560x256 .bf16 :=
  glue (s := S2560x256) 0 640 (n := 4) (fun j => ![640 * j.val, 0]) S640x256.size (by decide) (fun _ => rfl) rfl (fun j => off0 (s := S2560x256.size) (t := S640x256.size) (640 * j.val) rfl) fun j => pProj I.es I.emb (window (s := S2560x896) I.T20 ![640 * j.val, 0] S640x896.size (inbGw j)) (window (s := S2560x128) I.T24 ![640 * j.val, 0] S640x128.size (inbGs j))

theorem Ins.T27_tile (I : Ins F) (j : Fin 4) (i : S2560x256.Idx) (h : ∀ b, (![640 * j.val, 0] : Fin 2 → ℕ) b ≤ (i b).val ∧ (i b).val < (![640 * j.val, 0] : Fin 2 → ℕ) b + S640x256.size b) :
    pProj I.es I.emb (window (s := S2560x896) I.T20 ![640 * j.val, 0] S640x896.size (inbGw j)) (window (s := S2560x128) I.T24 ![640 * j.val, 0] S640x128.size (inbGs j)) (Rect.unitLocal (s := S2560x256) i h) = I.T27 i :=
  glue_tile (s := S2560x256) (size := S640x256.size) 0 640 (off := fun j => ![640 * j.val, 0]) (fun _ => rfl) rfl (by decide) (fun j => off0 (s := S2560x256.size) (t := S640x256.size) (640 * j.val) rfl) (fun j => pProj I.es I.emb (window (s := S2560x896) I.T20 ![640 * j.val, 0] S640x896.size (inbGw j)) (window (s := S2560x128) I.T24 ![640 * j.val, 0] S640x128.size (inbGs j))) j i h

/-- The values, transposed. -/
def Ins.T28 (I : Ins F) : Vec F S2560x256 .bf16 :=
  glue (s := S2560x256) 0 640 (n := 4) (fun j => ![640 * j.val, 0]) S640x256.size (by decide) (fun _ => rfl) rfl (fun j => off0 (s := S2560x256.size) (t := S640x256.size) (640 * j.val) rfl) fun j => pProj I.es I.emb (window (s := S2560x896) I.T21 ![640 * j.val, 0] S640x896.size (inbGw j)) (window (s := S2560x128) I.T25 ![640 * j.val, 0] S640x128.size (inbGs j))

theorem Ins.T28_tile (I : Ins F) (j : Fin 4) (i : S2560x256.Idx) (h : ∀ b, (![640 * j.val, 0] : Fin 2 → ℕ) b ≤ (i b).val ∧ (i b).val < (![640 * j.val, 0] : Fin 2 → ℕ) b + S640x256.size b) :
    pProj I.es I.emb (window (s := S2560x896) I.T21 ![640 * j.val, 0] S640x896.size (inbGw j)) (window (s := S2560x128) I.T25 ![640 * j.val, 0] S640x128.size (inbGs j)) (Rect.unitLocal (s := S2560x256) i h) = I.T28 i :=
  glue_tile (s := S2560x256) (size := S640x256.size) 0 640 (off := fun j => ![640 * j.val, 0]) (fun _ => rfl) rfl (by decide) (fun j => off0 (s := S2560x256.size) (t := S640x256.size) (640 * j.val) rfl) (fun j => pProj I.es I.emb (window (s := S2560x896) I.T21 ![640 * j.val, 0] S640x896.size (inbGw j)) (window (s := S2560x128) I.T25 ![640 * j.val, 0] S640x128.size (inbGs j))) j i h

/-- The gradients of the keys, transposed. -/
def Ins.T29 (I : Ins F) : Vec F S2560x256 .bf16 :=
  glue (s := S2560x256) 0 160 (n := 16) (fun j => ![160 * j.val, 0]) S160x256.size (by decide) (fun _ => rfl) rfl (fun j => off0 (s := S2560x256.size) (t := S160x256.size) (160 * j.val) rfl) fun j => hDk j I.qs I.dosR (pLive I.u) (window (s := S2560x128) I.T26 ![160 * (j).val, 0] S160x128.size (inbHx (j))) (window (s := S2560x256) I.T27 ![160 * (j).val, 0] S160x256.size (inbHk (j))) (window (s := S2560x256) I.T28 ![160 * (j).val, 0] S160x256.size (inbHk (j)))

theorem Ins.T29_tile (I : Ins F) (j : Fin 16) (i : S2560x256.Idx) (h : ∀ b, (![160 * j.val, 0] : Fin 2 → ℕ) b ≤ (i b).val ∧ (i b).val < (![160 * j.val, 0] : Fin 2 → ℕ) b + S160x256.size b) :
    hDk j I.qs I.dosR (pLive I.u) (window (s := S2560x128) I.T26 ![160 * (j).val, 0] S160x128.size (inbHx (j))) (window (s := S2560x256) I.T27 ![160 * (j).val, 0] S160x256.size (inbHk (j))) (window (s := S2560x256) I.T28 ![160 * (j).val, 0] S160x256.size (inbHk (j))) (Rect.unitLocal (s := S2560x256) i h) = I.T29 i :=
  glue_tile (s := S2560x256) (size := S160x256.size) 0 160 (off := fun j => ![160 * j.val, 0]) (fun _ => rfl) rfl (by decide) (fun j => off0 (s := S2560x256.size) (t := S160x256.size) (160 * j.val) rfl) (fun j => hDk j I.qs I.dosR (pLive I.u) (window (s := S2560x128) I.T26 ![160 * (j).val, 0] S160x128.size (inbHx (j))) (window (s := S2560x256) I.T27 ![160 * (j).val, 0] S160x256.size (inbHk (j))) (window (s := S2560x256) I.T28 ![160 * (j).val, 0] S160x256.size (inbHk (j)))) j i h

/-- The gradients of the values, transposed. -/
def Ins.T30 (I : Ins F) : Vec F S2560x256 .bf16 :=
  glue (s := S2560x256) 0 160 (n := 16) (fun j => ![160 * j.val, 0]) S160x256.size (by decide) (fun _ => rfl) rfl (fun j => off0 (s := S2560x256.size) (t := S160x256.size) (160 * j.val) rfl) fun j => hDv j I.qs I.dosR (pLive I.u) (window (s := S2560x128) I.T26 ![160 * (j).val, 0] S160x128.size (inbHx (j))) (window (s := S2560x256) I.T27 ![160 * (j).val, 0] S160x256.size (inbHk (j))) (window (s := S2560x256) I.T28 ![160 * (j).val, 0] S160x256.size (inbHk (j)))

theorem Ins.T30_tile (I : Ins F) (j : Fin 16) (i : S2560x256.Idx) (h : ∀ b, (![160 * j.val, 0] : Fin 2 → ℕ) b ≤ (i b).val ∧ (i b).val < (![160 * j.val, 0] : Fin 2 → ℕ) b + S160x256.size b) :
    hDv j I.qs I.dosR (pLive I.u) (window (s := S2560x128) I.T26 ![160 * (j).val, 0] S160x128.size (inbHx (j))) (window (s := S2560x256) I.T27 ![160 * (j).val, 0] S160x256.size (inbHk (j))) (window (s := S2560x256) I.T28 ![160 * (j).val, 0] S160x256.size (inbHk (j))) (Rect.unitLocal (s := S2560x256) i h) = I.T30 i :=
  glue_tile (s := S2560x256) (size := S160x256.size) 0 160 (off := fun j => ![160 * j.val, 0]) (fun _ => rfl) rfl (by decide) (fun j => off0 (s := S2560x256.size) (t := S160x256.size) (160 * j.val) rfl) (fun j => hDv j I.qs I.dosR (pLive I.u) (window (s := S2560x128) I.T26 ![160 * (j).val, 0] S160x128.size (inbHx (j))) (window (s := S2560x256) I.T27 ![160 * (j).val, 0] S160x256.size (inbHk (j))) (window (s := S2560x256) I.T28 ![160 * (j).val, 0] S160x256.size (inbHk (j)))) j i h

/-- The gradient of the queries of a head. -/
def Ins.dqHead (I : Ins F) (h : Fin 16) : FVec F S64x160 .f32 :=
  hDq h I.qs I.dosR (pLive I.u) (window (s := S2560x128) I.T26 ![160 * (h).val, 0] S160x128.size (inbHx (h))) (window (s := S2560x256) I.T27 ![160 * (h).val, 0] S160x256.size (inbHk (h))) (window (s := S2560x256) I.T28 ![160 * (h).val, 0] S160x256.size (inbHk (h)))

/-- The gradients of the queries that the next chunk takes over. -/
def Ins.T31 (I : Ins F) : Vec F S64x2560 .f32 :=
  glue (s := S64x2560) 1 640 (n := 4) (fun j => ![0, 640 * j.val]) S64x640.size (by decide) (fun _ => rfl) rfl (fun j => off1 (s := S64x2560.size) (t := S64x640.size) (640 * j.val) rfl) fun j => pCarry (pRoll (I.dqHead (hd j 0)) (I.dqHead (hd j 1)) (I.dqHead (hd j 2)) (I.dqHead (hd j 3)))

theorem Ins.T31_tile (I : Ins F) (j : Fin 4) (i : S64x2560.Idx) (h : ∀ b, (![0, 640 * j.val] : Fin 2 → ℕ) b ≤ (i b).val ∧ (i b).val < (![0, 640 * j.val] : Fin 2 → ℕ) b + S64x640.size b) :
    pCarry (pRoll (I.dqHead (hd j 0)) (I.dqHead (hd j 1)) (I.dqHead (hd j 2)) (I.dqHead (hd j 3))) (Rect.unitLocal (s := S64x2560) i h) = I.T31 i :=
  glue_tile (s := S64x2560) (size := S64x640.size) 1 640 (off := fun j => ![0, 640 * j.val]) (fun _ => rfl) rfl (by decide) (fun j => off1 (s := S64x2560.size) (t := S64x640.size) (640 * j.val) rfl) (fun j => pCarry (pRoll (I.dqHead (hd j 0)) (I.dqHead (hd j 1)) (I.dqHead (hd j 2)) (I.dqHead (hd j 3)))) j i h

/-- The gradients of the queries, given what the previous chunk left. -/
def Ins.T16 (I : Ins F) (C : Vec F S64x2560 .f32) : Vec F S1x64x2560 .bf16 :=
  glue (s := S1x64x2560) 2 640 (n := 4) (fun j => ![0, 0, 640 * j.val]) S1x64x640.size (by decide) (fun _ => rfl) rfl (fun j => off2 (s := S1x64x2560.size) (t := S1x64x640.size) (640 * j.val) rfl rfl) fun j => pDqOut I.u (pRoll (I.dqHead (hd j 0)) (I.dqHead (hd j 1)) (I.dqHead (hd j 2)) (I.dqHead (hd j 3))) (window (s := S64x2560) C ![0, 640 * j.val] S64x640.size (inbGd j))

theorem Ins.T16_tile (I : Ins F) (C : Vec F S64x2560 .f32) (j : Fin 4) (i : S1x64x2560.Idx) (h : ∀ b, (![0, 0, 640 * j.val] : Fin 3 → ℕ) b ≤ (i b).val ∧ (i b).val < (![0, 0, 640 * j.val] : Fin 3 → ℕ) b + S1x64x640.size b) :
    pDqOut I.u (pRoll (I.dqHead (hd j 0)) (I.dqHead (hd j 1)) (I.dqHead (hd j 2)) (I.dqHead (hd j 3))) (window (s := S64x2560) C ![0, 640 * j.val] S64x640.size (inbGd j)) (Rect.unitLocal (s := S1x64x2560) i h) = I.T16 C i :=
  glue_tile (s := S1x64x2560) (size := S1x64x640.size) 2 640 (off := fun j => ![0, 0, 640 * j.val]) (fun _ => rfl) rfl (by decide) (fun j => off2 (s := S1x64x2560.size) (t := S1x64x640.size) (640 * j.val) rfl rfl) (fun j => pDqOut I.u (pRoll (I.dqHead (hd j 0)) (I.dqHead (hd j 1)) (I.dqHead (hd j 2)) (I.dqHead (hd j 3))) (window (s := S64x2560) C ![0, 640 * j.val] S64x640.size (inbGd j))) j i h

/-- A tile that is the whole buffer. -/
theorem full_tile {s : Shape} {α : Type} {off : Fin s.rank → ℕ} (ho : ∀ b, off b = 0) (w : s.Idx → α) (i : s.Idx) (h : ∀ b, off b ≤ (i b).val ∧ (i b).val < off b + s.size b) :
    w (Rect.unitLocal (s := s) i h) = w i := by
  congr 1
  funext b
  refine Fin.ext ?_
  show (i b).val - off b = (i b).val
  rw [ho b, Nat.sub_zero]

/-- The gradient of the neighbours. -/
def Ins.T17 (I : Ins F) : Vec F S1x1x256x896 .bf16 := pDemb (window (s := S896x2560) I.T22 ![0, 0] S896x2560.size inb_S896x2560_S896x2560_0_0) (window (s := S2560x256) I.T29 ![0, 0] S2560x256.size inb_S2560x256_S2560x256_0_0) (window (s := S896x2560) I.T23 ![0, 0] S896x2560.size inb_S896x2560_S896x2560_0_0) (window (s := S2560x256) I.T30 ![0, 0] S2560x256.size inb_S2560x256_S2560x256_0_0)

theorem Ins.T17_tile (I : Ins F) (i : S1x1x256x896.Idx) (h : ∀ b, (![0, 0, 0, 0] : Fin 4 → ℕ) b ≤ (i b).val ∧ (i b).val < (![0, 0, 0, 0] : Fin 4 → ℕ) b + S1x1x256x896.size b) :
    pDemb (window (s := S896x2560) I.T22 ![0, 0] S896x2560.size inb_S896x2560_S896x2560_0_0) (window (s := S2560x256) I.T29 ![0, 0] S2560x256.size inb_S2560x256_S2560x256_0_0) (window (s := S896x2560) I.T23 ![0, 0] S896x2560.size inb_S896x2560_S896x2560_0_0) (window (s := S2560x256) I.T30 ![0, 0] S2560x256.size inb_S2560x256_S2560x256_0_0) (Rect.unitLocal (s := S1x1x256x896) i h) = I.T17 i :=
  full_tile (s := S1x1x256x896) (off := ![0, 0, 0, 0]) (by decide) (pDemb (window (s := S896x2560) I.T22 ![0, 0] S896x2560.size inb_S896x2560_S896x2560_0_0) (window (s := S2560x256) I.T29 ![0, 0] S2560x256.size inb_S2560x256_S2560x256_0_0) (window (s := S896x2560) I.T23 ![0, 0] S896x2560.size inb_S896x2560_S896x2560_0_0) (window (s := S2560x256) I.T30 ![0, 0] S2560x256.size inb_S2560x256_S2560x256_0_0)) i h

/-- The gradient of the weights of the keys, given the sum so far. -/
def Ins.T18 (I : Ins F) (D : Vec F S896x2560 .f32) : Vec F S896x2560 .f32 := pDw I.ed (window (s := S896x2560) D ![0, 0] S896x2560.size inb_S896x2560_S896x2560_0_0) (window (s := S2560x256) I.T29 ![0, 0] S2560x256.size inb_S2560x256_S2560x256_0_0)

theorem Ins.T18_tile (I : Ins F) (D : Vec F S896x2560 .f32) (i : S896x2560.Idx) (h : ∀ b, (![0, 0] : Fin 2 → ℕ) b ≤ (i b).val ∧ (i b).val < (![0, 0] : Fin 2 → ℕ) b + S896x2560.size b) :
    pDw I.ed (window (s := S896x2560) D ![0, 0] S896x2560.size inb_S896x2560_S896x2560_0_0) (window (s := S2560x256) I.T29 ![0, 0] S2560x256.size inb_S2560x256_S2560x256_0_0) (Rect.unitLocal (s := S896x2560) i h) = I.T18 D i :=
  full_tile (s := S896x2560) (off := ![0, 0]) (by decide) (pDw I.ed (window (s := S896x2560) D ![0, 0] S896x2560.size inb_S896x2560_S896x2560_0_0) (window (s := S2560x256) I.T29 ![0, 0] S2560x256.size inb_S2560x256_S2560x256_0_0)) i h

/-- The gradient of the weights of the values, given the sum so far. -/
def Ins.T19 (I : Ins F) (D : Vec F S896x2560 .f32) : Vec F S896x2560 .f32 := pDw I.ed (window (s := S896x2560) D ![0, 0] S896x2560.size inb_S896x2560_S896x2560_0_0) (window (s := S2560x256) I.T30 ![0, 0] S2560x256.size inb_S2560x256_S2560x256_0_0)

theorem Ins.T19_tile (I : Ins F) (D : Vec F S896x2560 .f32) (i : S896x2560.Idx) (h : ∀ b, (![0, 0] : Fin 2 → ℕ) b ≤ (i b).val ∧ (i b).val < (![0, 0] : Fin 2 → ℕ) b + S896x2560.size b) :
    pDw I.ed (window (s := S896x2560) D ![0, 0] S896x2560.size inb_S896x2560_S896x2560_0_0) (window (s := S2560x256) I.T30 ![0, 0] S2560x256.size inb_S2560x256_S2560x256_0_0) (Rect.unitLocal (s := S896x2560) i h) = I.T19 D i :=
  full_tile (s := S896x2560) (off := ![0, 0]) (by decide) (pDw I.ed (window (s := S896x2560) D ![0, 0] S896x2560.size inb_S896x2560_S896x2560_0_0) (window (s := S2560x256) I.T30 ![0, 0] S2560x256.size inb_S2560x256_S2560x256_0_0)) i h

end Cert.KernelIdeal.Hand
-- ==== Proof.KIdeal.Body.lean ====
module

public import proofs.«01_k».proof.Proof.KIdeal.Stages

/-! # The printed body is the structured program -/

@[expose] public section

set_option maxRecDepth 16384

noncomputable section

namespace Cert.KernelIdeal.Hand

open Idealize.ShloMosaic Idealize.SL.Sem
open Cert.KernelIdeal Cert.KernelIdeal.Gen

variable {F : FTy → Type} [FloatOps F]

set_option pp.maxSteps 400
set_option maxHeartbeats 8000000 in
/-- The printed body is the structured program. -/
theorem body_eq (i : grid0.Coords) (arg2 : Memref sig .tc .vmem S1x1x256x896 .fp8e4m3) (harg2 : arg2.IsWhole) (arg3 : Memref sig .tc .vmem S1x1x2x128 .f32) (harg3 : arg3.IsWhole) (arg4 : Memref sig .tc .vmem S1x64x2560 .fp8e4m3) (harg4 : arg4.IsWhole) (arg5 : Memref sig .tc .vmem S1x64x2560 .fp8e4m3) (harg5 : arg5.IsWhole) (arg6 : Memref sig .tc .vmem S1x64x2560 .fp8e5m2) (harg6 : arg6.IsWhole) (arg7 : Memref sig .tc .vmem S1x64x2560 .fp8e5m2) (harg7 : arg7.IsWhole) (arg8 : Memref sig .tc .vmem S1x64x16 .f32) (harg8 : arg8.IsWhole) (arg9 : Memref sig .tc .vmem S1x64x16 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S896x2560 .fp8e4m3) (harg12 : arg12.IsWhole) (arg13 : Memref sig .tc .vmem S896x2560 .fp8e4m3) (harg13 : arg13.IsWhole) (arg14 : Memref sig .tc .vmem S1x2560 .f32) (harg14 : arg14.IsWhole) (arg15 : Memref sig .tc .vmem S1x2560 .f32) (harg15 : arg15.IsWhole) (arg16 : Memref sig .tc .vmem S1x64x2560 .bf16) (harg16 : arg16.IsWhole) (arg17 : Memref sig .tc .vmem S1x1x256x896 .bf16) (harg17 : arg17.IsWhole) (arg18 : Memref sig .tc .vmem S896x2560 .f32) (harg18 : arg18.IsWhole) (arg19 : Memref sig .tc .vmem S896x2560 .f32) (harg19 : arg19.IsWhole) (arg20 : Memref sig .tc .vmem S2560x896 .fp8e4m3) (harg20 : arg20.IsWhole) (arg21 : Memref sig .tc .vmem S2560x896 .fp8e4m3) (harg21 : arg21.IsWhole) (arg22 : Memref sig .tc .vmem S896x2560 .bf16) (harg22 : arg22.IsWhole) (arg23 : Memref sig .tc .vmem S896x2560 .bf16) (harg23 : arg23.IsWhole) (arg24 : Memref sig .tc .vmem S2560x128 .f32) (harg24 : arg24.IsWhole) (arg25 : Memref sig .tc .vmem S2560x128 .f32) (harg25 : arg25.IsWhole) (arg26 : Memref sig .tc .vmem S2560x128 .bf16) (harg26 : arg26.IsWhole) (arg27 : Memref sig .tc .vmem S2560x256 .bf16) (harg27 : arg27.IsWhole) (arg28 : Memref sig .tc .vmem S2560x256 .bf16) (harg28 : arg28.IsWhole) (arg29 : Memref sig .tc .vmem S2560x256 .bf16) (harg29 : arg29.IsWhole) (arg30 : Memref sig .tc .vmem S2560x256 .bf16) (harg30 : arg30.IsWhole) (arg31 : Memref sig .tc .vmem S64x2560 .f32) (harg31 : arg31.IsWhole) :
    cc0_retro_cca_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 = bodyStage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 := by
  simp only [cc0_retro_cca_bwd_eq_skeleton, cc0_retro_cca_bwd_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, bind_assoc, Prog.bind_lift, Prog.bind_op, Prog.bind_ret, Prog.pure_eq_ret]
  simp only [bodyStage, initStage, mainStage, iter, initTile, zeroTile, xtTile, projStage, headStage, dqStage, groupStage, dembStage, dwStage, bind_assoc, Prog.bind_lift, Prog.bind_op, Prog.bind_ret, Prog.pure_eq_ret]
  by_cases hc : firstBit i = 1#1
  · have hc' := hc
    simp only [firstBit] at hc'
    simp only [dif_pos hc, dif_pos hc', Prog.bind_op, Prog.bind_ret]
    rfl
  · have hc' := hc
    simp only [firstBit] at hc'
    simp only [dif_neg hc, dif_neg hc', Prog.bind_op, Prog.bind_ret]
    rfl

end Cert.KernelIdeal.Hand
-- ==== Proof.KIdeal.Main.lean ====
module

public import proofs.«01_k».proof.Proof.KIdeal.Specs
public import proofs.«01_k».proof.Proof.KIdeal.Blocks
public import proofs.«01_k».proof.Proof.KIdeal.Body

/-! # What a point does

The whole body of a point: given its blocks, it leaves in every buffer what the blocks determine. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow

variable {F : FTy → Type} [FloatOps F]

local notation "𝕄" => MT nD τ sig Unit (Elt F) ℕ (UR sig nD τ) ℕ

variable (c : Dev nD) (E : Set ℕ)

/-- What every point does, once the weights are laid out. -/
theorem mainStage_spec (I : Ins F) (i : grid0.Coords) (arg2 : Memref sig .tc .vmem S1x1x256x896 .fp8e4m3) (harg2 : arg2.IsWhole) (arg3 : Memref sig .tc .vmem S1x1x2x128 .f32) (harg3 : arg3.IsWhole) (arg4 : Memref sig .tc .vmem S1x64x2560 .fp8e4m3) (harg4 : arg4.IsWhole) (arg5 : Memref sig .tc .vmem S1x64x2560 .fp8e4m3) (harg5 : arg5.IsWhole) (arg6 : Memref sig .tc .vmem S1x64x2560 .fp8e5m2) (harg6 : arg6.IsWhole) (arg7 : Memref sig .tc .vmem S1x64x2560 .fp8e5m2) (harg7 : arg7.IsWhole) (arg8 : Memref sig .tc .vmem S1x64x16 .f32) (harg8 : arg8.IsWhole) (arg9 : Memref sig .tc .vmem S1x64x16 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S896x2560 .fp8e4m3) (harg12 : arg12.IsWhole) (arg13 : Memref sig .tc .vmem S896x2560 .fp8e4m3) (harg13 : arg13.IsWhole) (arg14 : Memref sig .tc .vmem S1x2560 .f32) (harg14 : arg14.IsWhole) (arg15 : Memref sig .tc .vmem S1x2560 .f32) (harg15 : arg15.IsWhole) (arg16 : Memref sig .tc .vmem S1x64x2560 .bf16) (harg16 : arg16.IsWhole) (arg17 : Memref sig .tc .vmem S1x1x256x896 .bf16) (harg17 : arg17.IsWhole) (arg18 : Memref sig .tc .vmem S896x2560 .f32) (harg18 : arg18.IsWhole) (arg19 : Memref sig .tc .vmem S896x2560 .f32) (harg19 : arg19.IsWhole) (arg20 : Memref sig .tc .vmem S2560x896 .fp8e4m3) (harg20 : arg20.IsWhole) (arg21 : Memref sig .tc .vmem S2560x896 .fp8e4m3) (harg21 : arg21.IsWhole) (arg22 : Memref sig .tc .vmem S896x2560 .bf16) (harg22 : arg22.IsWhole) (arg23 : Memref sig .tc .vmem S896x2560 .bf16) (harg23 : arg23.IsWhole) (arg24 : Memref sig .tc .vmem S2560x128 .f32) (harg24 : arg24.IsWhole) (arg25 : Memref sig .tc .vmem S2560x128 .f32) (harg25 : arg25.IsWhole) (arg26 : Memref sig .tc .vmem S2560x128 .bf16) (harg26 : arg26.IsWhole) (arg27 : Memref sig .tc .vmem S2560x256 .bf16) (harg27 : arg27.IsWhole) (arg28 : Memref sig .tc .vmem S2560x256 .bf16) (harg28 : arg28.IsWhole) (arg29 : Memref sig .tc .vmem S2560x256 .bf16) (harg29 : arg29.IsWhole) (arg30 : Memref sig .tc .vmem S2560x256 .bf16) (harg30 : arg30.IsWhole) (arg31 : Memref sig .tc .vmem S64x2560 .f32) (harg31 : arg31.IsWhole) (hu : I.u = BitVec.ofNat 32 (i 1).val)
    {A16 : Vec F S1x64x2560 .bf16} {A17 : Vec F S1x1x256x896 .bf16} {D18 D19 : Vec F S896x2560 .f32} {A26 : Vec F S2560x128 .bf16} {A27 : Vec F S2560x256 .bf16} {A28 : Vec F S2560x256 .bf16} {A29 : Vec F S2560x256 .bf16} {A30 : Vec F S2560x256 .bf16} {C : Vec F S64x2560 .f32} {Q : PUnit → sProp (MT nD τ sig Unit (Elt F) ℕ (UR sig nD τ) ℕ)} :
    iprop(owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare A16 ∗ owns (c : Thread nD τ) arg17 fullShare A17 ∗ owns (c : Thread nD τ) arg18 fullShare D18 ∗ owns (c : Thread nD τ) arg19 fullShare D19 ∗ owns (c : Thread nD τ) arg20 fullShare I.T20 ∗ owns (c : Thread nD τ) arg21 fullShare I.T21 ∗ owns (c : Thread nD τ) arg22 fullShare I.T22 ∗ owns (c : Thread nD τ) arg23 fullShare I.T23 ∗ owns (c : Thread nD τ) arg24 fullShare I.T24 ∗ owns (c : Thread nD τ) arg25 fullShare I.T25 ∗ owns (c : Thread nD τ) arg26 fullShare A26 ∗ owns (c : Thread nD τ) arg27 fullShare A27 ∗ owns (c : Thread nD τ) arg28 fullShare A28 ∗ owns (c : Thread nD τ) arg29 fullShare A29 ∗ owns (c : Thread nD τ) arg30 fullShare A30 ∗ owns (c : Thread nD τ) arg31 fullShare C
      ∗ ((owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare (I.T16 C) ∗ owns (c : Thread nD τ) arg17 fullShare I.T17 ∗ owns (c : Thread nD τ) arg18 fullShare (I.T18 D18) ∗ owns (c : Thread nD τ) arg19 fullShare (I.T19 D19) ∗ owns (c : Thread nD τ) arg20 fullShare I.T20 ∗ owns (c : Thread nD τ) arg21 fullShare I.T21 ∗ owns (c : Thread nD τ) arg22 fullShare I.T22 ∗ owns (c : Thread nD τ) arg23 fullShare I.T23 ∗ owns (c : Thread nD τ) arg24 fullShare I.T24 ∗ owns (c : Thread nD τ) arg25 fullShare I.T25 ∗ owns (c : Thread nD τ) arg26 fullShare I.T26 ∗ owns (c : Thread nD τ) arg27 fullShare I.T27 ∗ owns (c : Thread nD τ) arg28 fullShare I.T28 ∗ owns (c : Thread nD τ) arg29 fullShare I.T29 ∗ owns (c : Thread nD τ) arg30 fullShare I.T30 ∗ owns (c : Thread nD τ) arg31 fullShare I.T31) -∗ Q ⟨⟩))
      ⊢ WP c E (mainStage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) Q := by
  unfold mainStage
  rw [← hu]
  simp only [Prog.bind_lift]
  iintro ⟨H2, H3, H4, H5, H6, H7, H8, H9, H10, H11, H12, H13, H14, H15, H16, H17, H18, H19, H20, H21, H22, H23, H24, H25, H26, H27, H28, H29, H30, H31, Hk⟩
  unfold WP
  rw [wp_bind]
  iapply (xtTile_spec c E I.T26_tile)
  isplitl [H4]; · iexact H4
  isplitl [H5]; · iexact H5
  isplitl [H6]; · iexact H6
  isplitl [H7]; · iexact H7
  isplitl [H26]; · iexact H26
  iintro ⟨H4, H5, H6, H7, H26⟩
  iapply (wp_ld c E (m := arg8)) $$ H8; iintro H8
  iapply (wp_ld c E (m := arg9)) $$ H9; iintro H9
  iapply (wp_ld c E (m := arg10)) $$ H10; iintro H10
  iapply (wp_ld c E (m := arg11)) $$ H11; iintro H11
  iapply (wp_ld c E (m := arg3)) $$ H3; iintro H3
  iapply (wp_ld c E (m := arg3)) $$ H3; iintro H3
  iapply (wp_ld c E (m := arg2)) $$ H2; iintro H2
  unfold WP
  rw [wp_bind]
  iapply (groups_spec c E (u := I.u) (es := I.es) (emb := I.emb) (qs := I.qs) (dosR := I.dosR) (T27 := I.T27) (T28 := I.T28) (C := C) I.T27_tile I.T28_tile I.T29_tile I.T30_tile (I.T16_tile C) I.T31_tile)
  isplitl [H20]; · iexact H20
  isplitl [H21]; · iexact H21
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H16]; · iexact H16
  isplitl [H31]; · iexact H31
  iintro ⟨H20, H21, H24, H25, H26, H27, H28, H29, H30, H16, H31⟩
  rw [wp_bind]
  iapply (dembStage_spec c E I.T17_tile)
  isplitl [H22]; · iexact H22
  isplitl [H23]; · iexact H23
  isplitl [H29]; · iexact H29
  isplitl [H30]; · iexact H30
  isplitl [H17]; · iexact H17
  iintro ⟨H22, H23, H29, H30, H17⟩
  rw [wp_bind]
  iapply (dwStage_spec c E (I.T18_tile D18))
  isplitl [H29]; · iexact H29
  isplitl [H18]; · iexact H18
  iintro ⟨H29, H18⟩
  iapply (dwStage_spec c E (I.T19_tile D19))
  isplitl [H30]; · iexact H30
  isplitl [H19]; · iexact H19
  iintro ⟨H30, H19⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- What the first point does before: it lays out the weights and zeroes the sums. -/
theorem initStage_spec (I : Ins F) (i : grid0.Coords) (arg2 : Memref sig .tc .vmem S1x1x256x896 .fp8e4m3) (harg2 : arg2.IsWhole) (arg3 : Memref sig .tc .vmem S1x1x2x128 .f32) (harg3 : arg3.IsWhole) (arg4 : Memref sig .tc .vmem S1x64x2560 .fp8e4m3) (harg4 : arg4.IsWhole) (arg5 : Memref sig .tc .vmem S1x64x2560 .fp8e4m3) (harg5 : arg5.IsWhole) (arg6 : Memref sig .tc .vmem S1x64x2560 .fp8e5m2) (harg6 : arg6.IsWhole) (arg7 : Memref sig .tc .vmem S1x64x2560 .fp8e5m2) (harg7 : arg7.IsWhole) (arg8 : Memref sig .tc .vmem S1x64x16 .f32) (harg8 : arg8.IsWhole) (arg9 : Memref sig .tc .vmem S1x64x16 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S896x2560 .fp8e4m3) (harg12 : arg12.IsWhole) (arg13 : Memref sig .tc .vmem S896x2560 .fp8e4m3) (harg13 : arg13.IsWhole) (arg14 : Memref sig .tc .vmem S1x2560 .f32) (harg14 : arg14.IsWhole) (arg15 : Memref sig .tc .vmem S1x2560 .f32) (harg15 : arg15.IsWhole) (arg16 : Memref sig .tc .vmem S1x64x2560 .bf16) (harg16 : arg16.IsWhole) (arg17 : Memref sig .tc .vmem S1x1x256x896 .bf16) (harg17 : arg17.IsWhole) (arg18 : Memref sig .tc .vmem S896x2560 .f32) (harg18 : arg18.IsWhole) (arg19 : Memref sig .tc .vmem S896x2560 .f32) (harg19 : arg19.IsWhole) (arg20 : Memref sig .tc .vmem S2560x896 .fp8e4m3) (harg20 : arg20.IsWhole) (arg21 : Memref sig .tc .vmem S2560x896 .fp8e4m3) (harg21 : arg21.IsWhole) (arg22 : Memref sig .tc .vmem S896x2560 .bf16) (harg22 : arg22.IsWhole) (arg23 : Memref sig .tc .vmem S896x2560 .bf16) (harg23 : arg23.IsWhole) (arg24 : Memref sig .tc .vmem S2560x128 .f32) (harg24 : arg24.IsWhole) (arg25 : Memref sig .tc .vmem S2560x128 .f32) (harg25 : arg25.IsWhole) (arg26 : Memref sig .tc .vmem S2560x128 .bf16) (harg26 : arg26.IsWhole) (arg27 : Memref sig .tc .vmem S2560x256 .bf16) (harg27 : arg27.IsWhole) (arg28 : Memref sig .tc .vmem S2560x256 .bf16) (harg28 : arg28.IsWhole) (arg29 : Memref sig .tc .vmem S2560x256 .bf16) (harg29 : arg29.IsWhole) (arg30 : Memref sig .tc .vmem S2560x256 .bf16) (harg30 : arg30.IsWhole) (arg31 : Memref sig .tc .vmem S64x2560 .f32) (harg31 : arg31.IsWhole) {A18 : Vec F S896x2560 .f32} {A19 : Vec F S896x2560 .f32} {A20 : Vec F S2560x896 .fp8e4m3} {A21 : Vec F S2560x896 .fp8e4m3} {A22 : Vec F S896x2560 .bf16} {A23 : Vec F S896x2560 .bf16} {A24 : Vec F S2560x128 .f32} {A25 : Vec F S2560x128 .f32} {Q : PUnit → sProp (MT nD τ sig Unit (Elt F) ℕ (UR sig nD τ) ℕ)} :
    iprop(owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg18 fullShare A18 ∗ owns (c : Thread nD τ) arg19 fullShare A19 ∗ owns (c : Thread nD τ) arg20 fullShare A20 ∗ owns (c : Thread nD τ) arg21 fullShare A21 ∗ owns (c : Thread nD τ) arg22 fullShare A22 ∗ owns (c : Thread nD τ) arg23 fullShare A23 ∗ owns (c : Thread nD τ) arg24 fullShare A24 ∗ owns (c : Thread nD τ) arg25 fullShare A25 ∗ ((owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg18 fullShare (pZero (F := F)) ∗ owns (c : Thread nD τ) arg19 fullShare (pZero (F := F)) ∗ owns (c : Thread nD τ) arg20 fullShare I.T20 ∗ owns (c : Thread nD τ) arg21 fullShare I.T21 ∗ owns (c : Thread nD τ) arg22 fullShare I.T22 ∗ owns (c : Thread nD τ) arg23 fullShare I.T23 ∗ owns (c : Thread nD τ) arg24 fullShare I.T24 ∗ owns (c : Thread nD τ) arg25 fullShare I.T25) -∗ Q ⟨⟩))
      ⊢ WP c E (initStage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) Q := by
  unfold initStage
  iintro ⟨H12, H13, H14, H15, H18, H19, H20, H21, H22, H23, H24, H25, Hk⟩
  unfold WP
  rw [wp_bind]
  iapply (initTile_spec c E I.T20_tile I.T22_tile I.T24_tile)
  isplitl [H12]; · iexact H12
  isplitl [H14]; · iexact H14
  isplitl [H20]; · iexact H20
  isplitl [H22]; · iexact H22
  isplitl [H24]; · iexact H24
  iintro ⟨H12, H14, H20, H22, H24⟩
  rw [wp_bind]
  iapply (initTile_spec c E I.T21_tile I.T23_tile I.T25_tile)
  isplitl [H13]; · iexact H13
  isplitl [H15]; · iexact H15
  isplitl [H21]; · iexact H21
  isplitl [H23]; · iexact H23
  isplitl [H25]; · iexact H25
  iintro ⟨H13, H15, H21, H23, H25⟩
  rw [wp_bind]
  iapply (zeroTile_spec c E)
  isplitl [H18]; · iexact H18
  iintro H18
  iapply (zeroTile_spec c E)
  isplitl [H19]; · iexact H19
  iintro H19
  iapply Hk
  isplitl [H12]; · iexact H12
  isplitl [H13]; · iexact H13
  isplitl [H14]; · iexact H14
  isplitl [H15]; · iexact H15
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body of a point. At the first point nothing is asked of the scratch; later the weights must be laid out in it. -/
theorem body_spec (I : Ins F) (i : grid0.Coords) (arg2 : Memref sig .tc .vmem S1x1x256x896 .fp8e4m3) (harg2 : arg2.IsWhole) (arg3 : Memref sig .tc .vmem S1x1x2x128 .f32) (harg3 : arg3.IsWhole) (arg4 : Memref sig .tc .vmem S1x64x2560 .fp8e4m3) (harg4 : arg4.IsWhole) (arg5 : Memref sig .tc .vmem S1x64x2560 .fp8e4m3) (harg5 : arg5.IsWhole) (arg6 : Memref sig .tc .vmem S1x64x2560 .fp8e5m2) (harg6 : arg6.IsWhole) (arg7 : Memref sig .tc .vmem S1x64x2560 .fp8e5m2) (harg7 : arg7.IsWhole) (arg8 : Memref sig .tc .vmem S1x64x16 .f32) (harg8 : arg8.IsWhole) (arg9 : Memref sig .tc .vmem S1x64x16 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S896x2560 .fp8e4m3) (harg12 : arg12.IsWhole) (arg13 : Memref sig .tc .vmem S896x2560 .fp8e4m3) (harg13 : arg13.IsWhole) (arg14 : Memref sig .tc .vmem S1x2560 .f32) (harg14 : arg14.IsWhole) (arg15 : Memref sig .tc .vmem S1x2560 .f32) (harg15 : arg15.IsWhole) (arg16 : Memref sig .tc .vmem S1x64x2560 .bf16) (harg16 : arg16.IsWhole) (arg17 : Memref sig .tc .vmem S1x1x256x896 .bf16) (harg17 : arg17.IsWhole) (arg18 : Memref sig .tc .vmem S896x2560 .f32) (harg18 : arg18.IsWhole) (arg19 : Memref sig .tc .vmem S896x2560 .f32) (harg19 : arg19.IsWhole) (arg20 : Memref sig .tc .vmem S2560x896 .fp8e4m3) (harg20 : arg20.IsWhole) (arg21 : Memref sig .tc .vmem S2560x896 .fp8e4m3) (harg21 : arg21.IsWhole) (arg22 : Memref sig .tc .vmem S896x2560 .bf16) (harg22 : arg22.IsWhole) (arg23 : Memref sig .tc .vmem S896x2560 .bf16) (harg23 : arg23.IsWhole) (arg24 : Memref sig .tc .vmem S2560x128 .f32) (harg24 : arg24.IsWhole) (arg25 : Memref sig .tc .vmem S2560x128 .f32) (harg25 : arg25.IsWhole) (arg26 : Memref sig .tc .vmem S2560x128 .bf16) (harg26 : arg26.IsWhole) (arg27 : Memref sig .tc .vmem S2560x256 .bf16) (harg27 : arg27.IsWhole) (arg28 : Memref sig .tc .vmem S2560x256 .bf16) (harg28 : arg28.IsWhole) (arg29 : Memref sig .tc .vmem S2560x256 .bf16) (harg29 : arg29.IsWhole) (arg30 : Memref sig .tc .vmem S2560x256 .bf16) (harg30 : arg30.IsWhole) (arg31 : Memref sig .tc .vmem S64x2560 .f32) (harg31 : arg31.IsWhole) (hu : I.u = BitVec.ofNat 32 (i 1).val)
    {A16 : Vec F S1x64x2560 .bf16} {A17 : Vec F S1x1x256x896 .bf16} {A18 : Vec F S896x2560 .f32} {A19 : Vec F S896x2560 .f32} {A20 : Vec F S2560x896 .fp8e4m3} {A21 : Vec F S2560x896 .fp8e4m3} {A22 : Vec F S896x2560 .bf16} {A23 : Vec F S896x2560 .bf16} {A24 : Vec F S2560x128 .f32} {A25 : Vec F S2560x128 .f32} {A26 : Vec F S2560x128 .bf16} {A27 : Vec F S2560x256 .bf16} {A28 : Vec F S2560x256 .bf16} {A29 : Vec F S2560x256 .bf16} {A30 : Vec F S2560x256 .bf16} {A31 : Vec F S64x2560 .f32} {D18 D19 : Vec F S896x2560 .f32} {T16 : Vec F S1x64x2560 .bf16}
    (hlater : firstBit i ≠ 1#1 → A20 = I.T20 ∧ A21 = I.T21 ∧ A22 = I.T22 ∧ A23 = I.T23 ∧ A24 = I.T24 ∧ A25 = I.T25 ∧ A18 = D18 ∧ A19 = D19)
    (hfirst : firstBit i = 1#1 → D18 = pZero ∧ D19 = pZero) (h16 : I.T16 A31 = T16) {Q : PUnit → sProp (MT nD τ sig Unit (Elt F) ℕ (UR sig nD τ) ℕ)} :
    iprop(owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare A16 ∗ owns (c : Thread nD τ) arg17 fullShare A17 ∗ owns (c : Thread nD τ) arg18 fullShare A18 ∗ owns (c : Thread nD τ) arg19 fullShare A19 ∗ owns (c : Thread nD τ) arg20 fullShare A20 ∗ owns (c : Thread nD τ) arg21 fullShare A21 ∗ owns (c : Thread nD τ) arg22 fullShare A22 ∗ owns (c : Thread nD τ) arg23 fullShare A23 ∗ owns (c : Thread nD τ) arg24 fullShare A24 ∗ owns (c : Thread nD τ) arg25 fullShare A25 ∗ owns (c : Thread nD τ) arg26 fullShare A26 ∗ owns (c : Thread nD τ) arg27 fullShare A27 ∗ owns (c : Thread nD τ) arg28 fullShare A28 ∗ owns (c : Thread nD τ) arg29 fullShare A29 ∗ owns (c : Thread nD τ) arg30 fullShare A30 ∗ owns (c : Thread nD τ) arg31 fullShare A31
      ∗ ((owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare T16 ∗ owns (c : Thread nD τ) arg17 fullShare I.T17 ∗ owns (c : Thread nD τ) arg18 fullShare (I.T18 D18) ∗ owns (c : Thread nD τ) arg19 fullShare (I.T19 D19) ∗ owns (c : Thread nD τ) arg20 fullShare I.T20 ∗ owns (c : Thread nD τ) arg21 fullShare I.T21 ∗ owns (c : Thread nD τ) arg22 fullShare I.T22 ∗ owns (c : Thread nD τ) arg23 fullShare I.T23 ∗ owns (c : Thread nD τ) arg24 fullShare I.T24 ∗ owns (c : Thread nD τ) arg25 fullShare I.T25 ∗ owns (c : Thread nD τ) arg26 fullShare I.T26 ∗ owns (c : Thread nD τ) arg27 fullShare I.T27 ∗ owns (c : Thread nD τ) arg28 fullShare I.T28 ∗ owns (c : Thread nD τ) arg29 fullShare I.T29 ∗ owns (c : Thread nD τ) arg30 fullShare I.T30 ∗ owns (c : Thread nD τ) arg31 fullShare I.T31) -∗ Q ⟨⟩))
      ⊢ WP c E (cc0_retro_cca_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) Q := by
  rw [body_eq, ← h16]
  unfold bodyStage
  by_cases hb : firstBit i = 1#1
  · rw [dif_pos hb]
    obtain ⟨rfl, rfl⟩ := hfirst hb
    iintro ⟨H2, H3, H4, H5, H6, H7, H8, H9, H10, H11, H12, H13, H14, H15, H16, H17, H18, H19, H20, H21, H22, H23, H24, H25, H26, H27, H28, H29, H30, H31, Hk⟩
    unfold WP
    rw [wp_bind]
    iapply (initStage_spec c E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31)
    isplitl [H12]; · iexact H12
    isplitl [H13]; · iexact H13
    isplitl [H14]; · iexact H14
    isplitl [H15]; · iexact H15
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iintro ⟨H12, H13, H14, H15, H18, H19, H20, H21, H22, H23, H24, H25⟩
    iapply (mainStage_spec c E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hu)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    iexact Hk
  · rw [dif_neg hb]
    obtain ⟨rfl, rfl, rfl, rfl, rfl, rfl, rfl, rfl⟩ := hlater hb
    exact mainStage_spec c E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hu

end Cert.KernelIdeal.Hand
-- ==== Proof.KIdeal.Run.lean ====
module

public import proofs.«01_k».proof.Proof.KIdeal.Main
public import proofs.«01_k».proof.Proof.Gen.KernelIdeal.Frame
public import Idealize.ShloMosaic.Lib.Pipeline.FrameBody
public import Idealize.ShloMosaic.Lib.Pipeline.FrameSuffix
public import Idealize.ShloMosaic.Lib.Claim

/-! # The run of the kernel

What the scratch holds between the points and what every point leaves in the windows; the kernel's run from this, and
that it leaves its arguments and the semaphores as they were. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow

variable {F : FTy → Type} [FloatOps F]

local notation "𝕄" => MT nD τ sig Unit (Elt F) ℕ (UR sig nD τ) ℕ

open Idealize.ShloMosaic.Pipeline (Dat BodyObligation)

variable (m : (ℓ : Loc nD τ sig) → Buf (Elt F) ℓ) (ρ : Dev nD → PrngReg)

/-- The blocks point `t` is given. -/
def ins (c : Dev nD) (t : Fin cfg0.N) : Ins F where
  u := BitVec.ofNat 32 ((grid0.coords t) 1).val
  x2 := iblk m c 0 t
  x3 := iblk m c 1 t
  x4 := iblk m c 2 t
  x5 := iblk m c 3 t
  x6 := iblk m c 4 t
  x7 := iblk m c 5 t
  x8 := iblk m c 6 t
  x9 := iblk m c 7 t
  x10 := iblk m c 8 t
  x11 := iblk m c 9 t
  x12 := iblk m c 10 t
  x13 := iblk m c 11 t
  x14 := iblk m c 12 t
  x15 := iblk m c 13 t

/-- The sum of the gradients of the weights of the keys over the points before `n`. -/
def acc18 (c : Dev nD) : ℕ → Vec F S896x2560 .f32
  | 0 => pZero
  | n + 1 => if h : n < cfg0.N then (ins m c ⟨n, h⟩).T18 (acc18 c n) else acc18 c n

/-- The sum of the gradients of the weights of the values over the points before `n`. -/
def acc19 (c : Dev nD) : ℕ → Vec F S896x2560 .f32
  | 0 => pZero
  | n + 1 => if h : n < cfg0.N then (ins m c ⟨n, h⟩).T19 (acc19 c n) else acc19 c n

/-- What the point before `n` leaves for the next chunk. -/
def car (c : Dev nD) : ℕ → Vec F S64x2560 .f32
  | 0 => fun _ => Scalar.ofBits .f32 0x00000000#32
  | n + 1 => if h : n < cfg0.N then (ins m c ⟨n, h⟩).T31 else fun _ => Scalar.ofBits .f32 0x00000000#32

theorem acc18_succ (c : Dev nD) (t : Fin cfg0.N) : acc18 m c (t.val + 1) = (ins m c t).T18 (acc18 m c t.val) := by
  rw [acc18, dif_pos t.isLt]

theorem acc19_succ (c : Dev nD) (t : Fin cfg0.N) : acc19 m c (t.val + 1) = (ins m c t).T19 (acc19 m c t.val) := by
  rw [acc19, dif_pos t.isLt]

theorem car_succ (c : Dev nD) (t : Fin cfg0.N) : car m c (t.val + 1) = (ins m c t).T31 := by
  rw [car, dif_pos t.isLt]

/-- The first point. -/
abbrev t0 : Fin cfg0.N := ⟨0, by decide⟩

/-- What is known of the scratch before point `n`: after the first point the weights are laid out, and the carried
gradients are the point before's. -/
def Known (c : Dev nD) (n : ℕ) (A20 : Vec F S2560x896 .fp8e4m3) (A21 : Vec F S2560x896 .fp8e4m3) (A22 : Vec F S896x2560 .bf16) (A23 : Vec F S896x2560 .bf16) (A24 : Vec F S2560x128 .f32) (A25 : Vec F S2560x128 .f32) (A31 : Vec F S64x2560 .f32) : Prop :=
  n ≠ 0 → A20 = (ins m c t0).T20 ∧ A21 = (ins m c t0).T21 ∧ A22 = (ins m c t0).T22 ∧ A23 = (ins m c t0).T23 ∧ A24 = (ins m c t0).T24 ∧ A25 = (ins m c t0).T25 ∧ A31 = car m c n

/-- The scratch before point `n`, and the generator's register. -/
def Φ (c : Dev nD) (n : ℕ) : sProp (MT nD τ sig Unit (Elt F) ℕ (UR sig nD τ) ℕ) :=
  iprop((∃ A20 A21 A22 A23 A24 A25 A26 A27 A28 A29 A30 A31, ⌜Known m c n A20 A21 A22 A23 A24 A25 A31⌝ ∗ owns (c : Thread nD τ) (Memref.whole cc0_scratch0) fullShare A20 ∗ owns (c : Thread nD τ) (Memref.whole cc0_scratch1) fullShare A21 ∗ owns (c : Thread nD τ) (Memref.whole cc0_scratch2) fullShare A22 ∗ owns (c : Thread nD τ) (Memref.whole cc0_scratch3) fullShare A23 ∗ owns (c : Thread nD τ) (Memref.whole cc0_scratch4) fullShare A24 ∗ owns (c : Thread nD τ) (Memref.whole cc0_scratch5) fullShare A25 ∗ owns (c : Thread nD τ) (Memref.whole cc0_scratch6) fullShare A26 ∗ owns (c : Thread nD τ) (Memref.whole cc0_scratch7) fullShare A27 ∗ owns (c : Thread nD τ) (Memref.whole cc0_scratch8) fullShare A28 ∗ owns (c : Thread nD τ) (Memref.whole cc0_scratch9) fullShare A29 ∗ owns (c : Thread nD τ) (Memref.whole cc0_scratch10) fullShare A30 ∗ owns (c : Thread nD τ) (Memref.whole cc0_scratch11) fullShare A31) ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (ins m c t).T16 (car m c t.val)
    | ⟨15, _⟩ => (ins m c t).T17
    | ⟨16, _⟩ => acc18 m c (t.val + 1)
    | ⟨17, _⟩ => acc19 m c (t.val + 1)
    | ⟨_ + 18, h⟩ => absurd h (Nat.not_lt.2 (Nat.le_add_left _ _))
  Φ t := Φ m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (ins m c t).T16 (car m c t.val) := by dsimp only [dats]
theorem after_15 (c : Dev nD) (t : Fin cfg0.N) : (dats m 0 c).after 15 t = (ins m c t).T17 := by dsimp only [dats]
theorem after_16 (c : Dev nD) (t : Fin cfg0.N) : (dats m 0 c).after 16 t = acc18 m c (t.val + 1) := by dsimp only [dats]
theorem after_17 (c : Dev nD) (t : Fin cfg0.N) : (dats m 0 c).after 17 t = acc19 m c (t.val + 1) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- The sums are kept from point to point. -/
theorem before_16 (c : Dev nD) (t : Fin cfg0.N) (ht : t.val ≠ 0) (d) : (dats m 0 c).before 16 t d = acc18 m c t.val := by
  rw [(dats m 0 c).before_out_kept 16 rfl t ht (by
    rw [← Bool.not_eq_true, flush0_16]
    have := lt_of_lt_of_eq t.isLt N_0
    dsimp only
    omega) (fun _ => rfl) (fun _ _ => rfl), after_16]
  dsimp only
  rw [Nat.sub_add_cancel (Nat.pos_of_ne_zero ht)]

theorem before_17 (c : Dev nD) (t : Fin cfg0.N) (ht : t.val ≠ 0) (d) : (dats m 0 c).before 17 t d = acc19 m c t.val := by
  rw [(dats m 0 c).before_out_kept 17 rfl t ht (by
    rw [← Bool.not_eq_true, flush0_17]
    have := lt_of_lt_of_eq t.isLt N_0
    dsimp only
    omega) (fun _ => rfl) (fun _ _ => rfl), after_17]
  dsimp only
  rw [Nat.sub_add_cancel (Nat.pos_of_ne_zero ht)]

/-- The kernel asks for the first point. -/
theorem firstBit_iff : ∀ t : Fin cfg0.N, firstBit (grid0.coords t) = 1#1 ↔ t.val = 0 :=
  (by decide : ∀ t : Fin grid0.N, firstBit (grid0.coords t) = 1#1 ↔ t.val = 0)

theorem u_t0 : BitVec.ofNat 32 ((grid0.coords t0) 1).val = 0#32 := by decide

/-- The weights are the same at every point. -/
theorem T20_const (c : Dev nD) (t : Fin cfg0.N) : (ins m c t).T20 = (ins m c t0).T20 := rfl
theorem T22_const (c : Dev nD) (t : Fin cfg0.N) : (ins m c t).T22 = (ins m c t0).T22 := rfl
theorem T24_const (c : Dev nD) (t : Fin cfg0.N) : (ins m c t).T24 = (ins m c t0).T24 := rfl
theorem T21_const (c : Dev nD) (t : Fin cfg0.N) : (ins m c t).T21 = (ins m c t0).T21 := rfl
theorem T23_const (c : Dev nD) (t : Fin cfg0.N) : (ins m c t).T23 = (ins m c t0).T23 := rfl
theorem T25_const (c : Dev nD) (t : Fin cfg0.N) : (ins m c t).T25 = (ins m c t0).T25 := rfl

/-- The first chunk takes nothing over. -/
theorem T16_first (I : Ins F) (h : I.u = 0#32) (C C' : Vec F S64x2560 .f32) : I.T16 C = I.T16 C' := by
  unfold Ins.T16
  congr 1
  funext j
  unfold pDqOut
  rw [h]
  rfl

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

theorem Φ_castSucc (c : Dev nD) (t : Fin cfg0.N) : (dats m 0 c).Φ t.castSucc = Φ m c t.val := by dsimp only [dats]; rfl
theorem Φ_succ (c : Dev nD) (t : Fin cfg0.N) : (dats m 0 c).Φ t.succ = Φ m c (t.val + 1) := by dsimp only [dats]; rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [Φ_castSucc, Φ_succ, show (dats m 0 c).owesAt () t.succ = (dats m 0 c).owesAt () t.castSucc from rfl,
    after_0, after_1, after_2, after_3, after_4, after_5, after_6, after_7, after_8, after_9, after_10, after_11, after_12, after_13, after_14, after_15, after_16, after_17]
  unfold Φ
  iintro ⟨⟨⟨%A20, %A21, %A22, %A23, %A24, %A25, %A26, %A27, %A28, %A29, %A30, %A31, %hK, H20, H21, H22, H23, H24, H25, H26, H27, H28, H29, H30, H31⟩, Hr⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩⟩
  iapply (body_spec c Set.univ (ins m c t) (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ rfl (A16 := (dats m 0 c).before 14 t d14) (A17 := (dats m 0 c).before 15 t d15) (A18 := (dats m 0 c).before 16 t d16) (A19 := (dats m 0 c).before 17 t d17) (A20 := A20) (A21 := A21) (A22 := A22) (A23 := A23) (A24 := A24) (A25 := A25) (A26 := A26) (A27 := A27) (A28 := A28) (A29 := A29) (A30 := A30) (A31 := A31) (D18 := acc18 m c t.val) (D19 := acc19 m c t.val) (T16 := (ins m c t).T16 (car m c t.val))
    (fun h => by
      have ht : t.val ≠ 0 := fun e => h ((firstBit_iff t).2 e)
      obtain ⟨h20, h21, h22, h23, h24, h25, h31⟩ := hK ht
      exact ⟨h20.trans (T20_const m c t).symm, h21.trans (T21_const m c t).symm, h22.trans (T22_const m c t).symm, h23.trans (T23_const m c t).symm, h24.trans (T24_const m c t).symm, h25.trans (T25_const m c t).symm, before_16 m c t ht d16, before_17 m c t ht d17⟩)
    (fun h => by
      have ht : t.val = 0 := (firstBit_iff t).1 h
      rw [ht]; exact ⟨rfl, rfl⟩)
    (by
      by_cases ht : t.val = 0
      · have e : t = t0 := Fin.ext ht
        exact T16_first _ (by rw [e]; exact u_t0) _ _
      · rw [(hK ht).2.2.2.2.2.2]))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iintro ⟨H2, H3, H4, H5, H6, H7, H8, H9, H10, H11, H12, H13, H14, H15, H16, H17, H18, H19, H20, H21, H22, H23, H24, H25, H26, H27, H28, H29, H30, H31⟩
  isplitl [Hr H20 H21 H22 H23 H24 H25 H26 H27 H28 H29 H30 H31]
  · isplitr [Hr]
    · iexists _; iexists _; iexists _; iexists _; iexists _; iexists _; iexists _; iexists _; iexists _; iexists _; iexists _; iexists _
      isplitr
      · ipureintro
        exact fun _ => ⟨T20_const m c t, T21_const m c t, T22_const m c t, T23_const m c t, T24_const m c t, T25_const m c t, (car_succ m c t).symm⟩
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      iexact H31
    · iexact Hr
  isplitl [Ho]; · iexact Ho
  rw [acc18_succ, acc19_succ]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  show _ ⊢ Φ m c 0
  unfold Pipeline.ΦA Φ
  rw [scopedRest0_eq]
  simp only [owns_whole]
  iintro ⟨⟨⟨%A20, H20⟩, ⟨%A21, H21⟩, ⟨%A22, H22⟩, ⟨%A23, H23⟩, ⟨%A24, H24⟩, ⟨%A25, H25⟩, ⟨%A26, H26⟩, ⟨%A27, H27⟩, ⟨%A28, H28⟩, ⟨%A29, H29⟩, ⟨%A30, H30⟩, ⟨%A31, H31⟩⟩, Hr⟩
  isplitr [Hr]
  · iexists A20; iexists A21; iexists A22; iexists A23; iexists A24; iexists A25; iexists A26; iexists A27; iexists A28; iexists A29; iexists A30; iexists A31
    isplitr; · ipureintro; exact fun h => absurd rfl h
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  · iexact Hr

theorem hout (c : Dev nD) : (dats (F := F) m 0 c).Φ (Fin.last cfg0.N) ⊢ Pipeline.ΦA spec0 c := by
  show Φ m c cfg0.N ⊢ _
  unfold Pipeline.ΦA Φ
  rw [scopedRest0_eq]
  simp only [owns_whole]
  iintro ⟨⟨%A20, %A21, %A22, %A23, %A24, %A25, %A26, %A27, %A28, %A29, %A30, %A31, %hK, H20, H21, H22, H23, H24, H25, H26, H27, H28, H29, H30, H31⟩, Hr⟩
  isplitr [Hr]
  · isplitl [H20]; · iexists A20; iexact H20
    isplitl [H21]; · iexists A21; iexact H21
    isplitl [H22]; · iexists A22; iexact H22
    isplitl [H23]; · iexists A23; iexact H23
    isplitl [H24]; · iexists A24; iexact H24
    isplitl [H25]; · iexists A25; iexact H25
    isplitl [H26]; · iexists A26; iexact H26
    isplitl [H27]; · iexists A27; iexact H27
    isplitl [H28]; · iexists A28; iexact H28
    isplitl [H29]; · iexists A29; iexact H29
    isplitl [H30]; · iexists A30; iexact H30
    iexists A31; iexact H31
  · iexact Hr

set_option backward.isDefEq.respectTransparency.types false in
set_option maxHeartbeats 800000 in
/-- The run of the kernel, and every semaphore at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run of the kernel. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The kernel leaves its arguments and its semaphores as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Hand
-- ==== Proof.KBits.Frame.lean ====
module

public import proofs.«01_k».proof.Defs
public import proofs.«01_k».proof.Proof.KIdeal.Run

/-! # The kernel and its idealization are one program

The two programs are printed alike: at any values they have the same body table and the same host program, so what is
proved of the run of the one is proved of the other. -/

@[expose] public section

set_option maxRecDepth 65536

noncomputable section

namespace Cert.Kernel.Hand

open Idealize.ShloMosaic Idealize.ShloMosaic.TcCoe Idealize.SL.Sem

variable {F : FTy → Type} [FloatOps F] [Cert.Kernel.Facts] [Cert.KernelIdeal.Facts]

set_option maxHeartbeats 1000000 in
/-- The two bodies are one. -/
theorem body_same : @Cert.Kernel.cc0_retro_cca_bwd F _ _ = @Cert.KernelIdeal.cc0_retro_cca_bwd F _ _ := rfl

set_option maxHeartbeats 1000000 in
theorem defs₀_same : Cert.Kernel.defs₀ (F := F) = Cert.KernelIdeal.defs₀ (F := F) := by
  unfold Cert.Kernel.defs₀ Cert.KernelIdeal.defs₀
  refine congrArg Defs.onTc (funext fun l => funext fun x => ?_)
  revert x
  match l with
  | 0 =>
    rintro ⟨t, s⟩
    dsimp only
    have k0 := body_same (F := F)
    open Cert.KernelIdeal Cert.KernelIdeal.Facts₀ in
    exact congrArg (fun f => f  (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (win0_11.stage (s 11)) (hstage0_11 ((s 11).cast nbuf0_11)) (win0_12.stage (s 12)) (hstage0_12 ((s 12).cast nbuf0_12)) (win0_13.stage (s 13)) (hstage0_13 ((s 13).cast nbuf0_13)) (win0_14.stage (s 14)) (hstage0_14 ((s 14).cast nbuf0_14)) (win0_15.stage (s 15)) (hstage0_15 ((s 15).cast nbuf0_15)) (win0_16.stage (s 16)) (hstage0_16 ((s 16).cast nbuf0_16)) (win0_17.stage (s 17)) (hstage0_17 ((s 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)) k0

set_option maxHeartbeats 1000000 in
theorem defs_same : Cert.Kernel.defs (F := F) = Cert.KernelIdeal.defs (F := F) := by
  unfold Cert.Kernel.defs Cert.KernelIdeal.defs
  exact congrArg (Pipeline.defs _) defs₀_same

set_option maxHeartbeats 1000000 in
theorem main_same : Cert.Kernel.main (F := F) = Cert.KernelIdeal.main (F := F) := funext fun _ => rfl

set_option maxHeartbeats 1000000 in
/-- The kernel leaves its arguments and its semaphores as they were. -/
theorem frame (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0) := by
  rw [defs_same, main_same]
  exact Cert.KernelIdeal.Hand.frame m ρ

end Cert.Kernel.Hand
-- ==== Proof.Math.lean ====
module

public import Idealize.ShloMosaic.PureOps.Ideal
public import Idealize.ShloMosaic.Lib.Pointwise

/-! # The backward pass of the chunked cross-attention, over the extended reals

One chunk first (`Chunk`): its queries, its output gradients, its neighbours and the weights are functions of plain
coordinates, and every quantity of the backward pass is the formula a textbook gives. Then the whole batch (`Data`):
chunk `u` of sequence `b` takes the 64 tokens from `64 u + 63` on, around the end of the sequence; the slots around the
end are dead, and nothing depends on what they hold (`Chunk.Same`). -/

@[expose] public section

noncomputable section

namespace Cert.Math

open Idealize.ShloMosaic
open scoped BigOperators

/-- The scale of the scores, `160 ^ (-1/2)` as the programs write it. -/
def c0 : EReal := Ideal.ofBits .f32 0x3DA1E89B#32

/-- What a maximum starts from. -/
def low : EReal := Ideal.ofBits .f32 0xFF800000#32

/-- The head of a column. -/
def hd (j : Fin 2560) : Fin 16 := ⟨j.val / 160, by omega⟩

/-- The place of a column within its head. -/
def rest (j : Fin 2560) : Fin 160 := ⟨j.val % 160, by omega⟩

/-- Column `r` of head `h`. -/
def col (h : Fin 16) (r : Fin 160) : Fin 2560 := ⟨160 * h.val + r.val, by omega⟩

theorem hd_col (h : Fin 16) (r : Fin 160) : hd (col h r) = h := Fin.ext (by simp only [hd, col]; omega)
theorem rest_col (h : Fin 16) (r : Fin 160) : rest (col h r) = r := Fin.ext (by simp only [rest, col]; omega)
theorem col_hd_rest (j : Fin 2560) : col (hd j) (rest j) = j := Fin.ext (by simp only [hd, col, rest]; omega)

/-- A sum over the columns is a sum over the heads of sums over a head's columns. -/
theorem sum_cols {M : Type*} [AddCommMonoid M] (f : Fin 2560 → M) : ∑ h, ∑ r, f (col h r) = ∑ j, f j := by
  rw [← Fintype.sum_prod_type (f := fun p : Fin 16 × Fin 160 => f (col p.1 p.2))]
  exact Fintype.sum_equiv (⟨fun p : Fin 16 × Fin 160 => col p.1 p.2, fun j => (hd j, rest j),
    fun p => Prod.ext (hd_col p.1 p.2) (rest_col p.1 p.2), col_hd_rest⟩ : Fin 16 × Fin 160 ≃ Fin 2560) _ _ fun _ => rfl

/-- What one chunk is computed from. -/
structure Chunk where
  x : Fin 64 → Fin 2560 → EReal
  s : Fin 64 → Fin 16 → EReal
  g : Fin 64 → Fin 2560 → EReal
  d : Fin 64 → EReal
  live : Fin 64 → Bool
  em : Fin 256 → Fin 896 → EReal
  es : Fin 256 → EReal
  wk : Fin 896 → Fin 2560 → EReal
  wv : Fin 896 → Fin 2560 → EReal
  ks : Fin 2560 → EReal
  vs : Fin 2560 → EReal

namespace Chunk

variable (C : Chunk)

/-- A projection of the neighbours. -/
def proj (w : Fin 896 → Fin 2560 → EReal) (ws : Fin 2560 → EReal) (j : Fin 2560) (m : Fin 256) : EReal :=
  (∑ e, w e j * C.em m e) * C.es m * ws j

/-- The keys. -/
def K : Fin 2560 → Fin 256 → EReal := C.proj C.wk C.ks
/-- The values. -/
def V : Fin 2560 → Fin 256 → EReal := C.proj C.wv C.vs

/-- The scores. -/
def sc (h : Fin 16) (i : Fin 64) (m : Fin 256) : EReal := (∑ r, C.x i (col h r) * C.K (col h r) m) * (c0 * C.s i h)

/-- The exponentials of the scores less their maximum. -/
def ex (h : Fin 16) (i : Fin 64) (m : Fin 256) : EReal := Ideal.exp (C.sc h i m - Finset.fold max low (fun m => C.sc h i m) Finset.univ)

/-- The attention weights. -/
def p (h : Fin 16) (i : Fin 64) (m : Fin 256) : EReal := Ideal.div (C.ex h i m) (∑ m, C.ex h i m)

/-- The gradients of the attention weights. -/
def dp (h : Fin 16) (i : Fin 64) (m : Fin 256) : EReal := (∑ r, C.g i (col h r) * C.V (col h r) m) * C.d i

/-- The gradients of the scores, zero on dead slots. -/
def ds (h : Fin 16) (i : Fin 64) (m : Fin 256) : EReal :=
  if C.live i then C.p h i m * (C.dp h i m - ∑ m, C.p h i m * C.dp h i m) else 0

/-- The attention weights, zero on dead slots. -/
def pb (h : Fin 16) (i : Fin 64) (m : Fin 256) : EReal := if C.live i then C.p h i m else 0

/-- The gradients of the keys. -/
def dk (j : Fin 2560) (m : Fin 256) : EReal := c0 * ∑ i, C.x i j * C.s i (hd j) * C.ds (hd j) i m

/-- The gradients of the values. -/
def dv (j : Fin 2560) (m : Fin 256) : EReal := ∑ i, C.g i j * C.d i * C.pb (hd j) i m

/-- The gradients of the queries. -/
def dq (i : Fin 64) (j : Fin 2560) : EReal := c0 * ∑ m, C.ds (hd j) i m * C.K j m

/-- The gradients of the neighbours. -/
def demb (m : Fin 256) (e : Fin 896) : EReal :=
  ∑ j, C.wk e j * C.ks j * C.dk j m + ∑ j, C.wv e j * C.vs j * C.dv j m

/-- The gradient of a projection's weights from the gradient `d` of its results. -/
def dw (d : Fin 2560 → Fin 256 → EReal) (e : Fin 896) (j : Fin 2560) : EReal := ∑ m, C.em m e * C.es m * d j m

/-- Two chunks that agree but for what their dead slots hold. -/
structure Same (C D : Chunk) : Prop where
  live : C.live = D.live
  em : C.em = D.em
  es : C.es = D.es
  wk : C.wk = D.wk
  wv : C.wv = D.wv
  ks : C.ks = D.ks
  vs : C.vs = D.vs
  x : ∀ i, C.live i → C.x i = D.x i
  s : ∀ i, C.live i → C.s i = D.s i
  g : ∀ i, C.live i → C.g i = D.g i
  d : ∀ i, C.live i → C.d i = D.d i

variable {C} {D : Chunk}

theorem Same.K (h : Same C D) : C.K = D.K := by
  funext j m; unfold Chunk.K proj; rw [h.em, h.es, h.wk, h.ks]

theorem Same.V (h : Same C D) : C.V = D.V := by
  funext j m; unfold Chunk.V proj; rw [h.em, h.es, h.wv, h.vs]

theorem Same.sc (h : Same C D) (k : Fin 16) (i : Fin 64) (hi : C.live i) : C.sc k i = D.sc k i := by
  funext m; unfold Chunk.sc; rw [h.x i hi, h.s i hi, h.K]

theorem Same.p (h : Same C D) (k : Fin 16) (i : Fin 64) (hi : C.live i) : C.p k i = D.p k i := by
  funext m; unfold Chunk.p Chunk.ex; rw [h.sc k i hi]

theorem Same.dp (h : Same C D) (k : Fin 16) (i : Fin 64) (hi : C.live i) : C.dp k i = D.dp k i := by
  funext m; unfold Chunk.dp; rw [h.g i hi, h.d i hi, h.V]

theorem Same.ds (h : Same C D) : C.ds = D.ds := by
  funext k i m
  unfold Chunk.ds
  rw [← h.live]
  by_cases hi : C.live i
  · rw [if_pos hi, if_pos hi, h.p k i hi, h.dp k i hi]
  · rw [if_neg hi, if_neg hi]

theorem Same.pb (h : Same C D) : C.pb = D.pb := by
  funext k i m
  unfold Chunk.pb
  rw [← h.live]
  by_cases hi : C.live i
  · rw [if_pos hi, if_pos hi, h.p k i hi]
  · rw [if_neg hi, if_neg hi]

theorem ds_dead (k : Fin 16) (i : Fin 64) (hi : C.live i = false) (m : Fin 256) : C.ds k i m = 0 := by
  unfold Chunk.ds; rw [hi]; rfl

theorem pb_dead (k : Fin 16) (i : Fin 64) (hi : C.live i = false) (m : Fin 256) : C.pb k i m = 0 := by
  unfold Chunk.pb; rw [hi]; rfl

theorem Same.dk (h : Same C D) : C.dk = D.dk := by
  funext j m
  refine congrArg (c0 * ·) (Finset.sum_congr rfl fun i _ => ?_)
  by_cases hi : C.live i
  · rw [h.x i hi, h.s i hi, h.ds]
  · rw [ds_dead _ i (by simpa using hi), ← h.ds, ds_dead _ i (by simpa using hi), mul_zero, mul_zero]

theorem Same.dv (h : Same C D) : C.dv = D.dv := by
  funext j m
  refine Finset.sum_congr rfl fun i _ => ?_
  by_cases hi : C.live i
  · rw [h.g i hi, h.d i hi, h.pb]
  · rw [pb_dead _ i (by simpa using hi), ← h.pb, pb_dead _ i (by simpa using hi), mul_zero, mul_zero]

theorem Same.dq (h : Same C D) : C.dq = D.dq := by
  funext i j; unfold Chunk.dq; rw [h.ds, h.K]

/-- A dead slot's query has gradient zero. -/
theorem dq_dead (i : Fin 64) (hi : C.live i = false) (j : Fin 2560) : C.dq i j = 0 := by
  unfold Chunk.dq
  rw [Finset.sum_eq_zero fun m _ => by rw [ds_dead _ i hi, zero_mul], mul_zero]

theorem Same.demb (h : Same C D) : C.demb = D.demb := by
  funext m e; unfold Chunk.demb; rw [h.dk, h.dv, h.wk, h.wv, h.ks, h.vs]

theorem Same.dw (h : Same C D) : C.dw = D.dw := by
  funext d e j; unfold Chunk.dw; rw [h.em, h.es]

end Chunk

/-- What the whole pass is computed from, by sequence, chunk, token, neighbour row and column. -/
structure Data where
  q : Fin 4 → Fin 512 → Fin 2560 → EReal
  s : Fin 4 → Fin 512 → Fin 16 → EReal
  g : Fin 4 → Fin 512 → Fin 2560 → EReal
  d : Fin 4 → Fin 512 → EReal
  em : Fin 4 → Fin 8 → Fin 256 → Fin 896 → EReal
  es : Fin 4 → Fin 8 → Fin 256 → EReal
  wk : Fin 896 → Fin 2560 → EReal
  wv : Fin 896 → Fin 2560 → EReal
  ks : Fin 2560 → EReal
  vs : Fin 2560 → EReal

/-- The token in slot `i` of chunk `u`. -/
def tok (u : Fin 8) (i : Fin 64) : Fin 512 := ⟨(64 * u.val + i.val + 63) % 512, Nat.mod_lt _ (by decide)⟩

/-- Which slots of chunk `u` hold a token that attends to the chunk. -/
def alive (u : Fin 8) (i : Fin 64) : Bool := decide (64 * u.val + i.val < 449)

namespace Data

variable (A : Data)

/-- One chunk of one sequence. -/
def chunk (b : Fin 4) (u : Fin 8) : Chunk where
  x i := A.q b (tok u i)
  s i := A.s b (tok u i)
  g i := A.g b (tok u i)
  d i := A.d b (tok u i)
  live := alive u
  em := A.em b u
  es := A.es b u
  wk := A.wk
  wv := A.wv
  ks := A.ks
  vs := A.vs

/-- The gradients of the queries: token `t` sits in slot `t - 63`, around the end of the sequence. -/
def dq (b : Fin 4) (t : Fin 512) (j : Fin 2560) : EReal :=
  (A.chunk b ⟨(t.val + 449) % 512 / 64, by omega⟩).dq ⟨(t.val + 449) % 64, by omega⟩ j

/-- The gradients of the neighbours. -/
def demb (b : Fin 4) (u : Fin 8) : Fin 256 → Fin 896 → EReal := (A.chunk b u).demb

/-- The gradient of the key weights. -/
def dwk (e : Fin 896) (j : Fin 2560) : EReal := ∑ b, ∑ u, (A.chunk b u).dw (A.chunk b u).dk e j

/-- The gradient of the value weights. -/
def dwv (e : Fin 896) (j : Fin 2560) : EReal := ∑ b, ∑ u, (A.chunk b u).dw (A.chunk b u).dv e j

end Data

/-- The data in the ten arguments of the programs. -/
def data (a0 : (⟨4, ![4, 512, 16, 160]⟩ : Shape).Idx → EReal) (a1 : (⟨3, ![4, 512, 16]⟩ : Shape).Idx → EReal)
    (a2 : (⟨3, ![4, 512, 2560]⟩ : Shape).Idx → EReal) (a3 : (⟨2, ![4, 512]⟩ : Shape).Idx → EReal)
    (a4 : (⟨5, ![4, 8, 2, 128, 896]⟩ : Shape).Idx → EReal) (a5 : (⟨4, ![4, 8, 2, 128]⟩ : Shape).Idx → EReal)
    (a6 a7 : (⟨2, ![896, 2560]⟩ : Shape).Idx → EReal) (a8 a9 : (⟨1, ![2560]⟩ : Shape).Idx → EReal) : Data where
  q b t j := a0 (ix4 b t (hd j) (rest j))
  s b t h := a1 (ix3 b t h)
  g b t j := a2 (ix3 b t j)
  d b t := a3 (ix2 b t)
  em b u m e := a4 (ix5 b u ⟨m.val / 128, by omega⟩ ⟨m.val % 128, by omega⟩ e)
  es b u m := a5 (ix4 b u ⟨m.val / 128, by omega⟩ ⟨m.val % 128, by omega⟩)
  wk e j := a6 (ix2 e j)
  wv e j := a7 (ix2 e j)
  ks j := a8 (ix1 j)
  vs j := a9 (ix1 j)

end Cert.Math
-- ==== Proof.KIdeal.Pay.lean ====
module

public import proofs.«01_k».proof.Proof.KIdeal.Stages
public import proofs.«01_k».proof.Proof.Math
public import Idealize.ShloMosaic.Lib.Pointwise
public import Idealize.ShloMosaic.PureOps.Ideal.Laws

/-! # The stages' computations over the extended reals, element by element -/

@[expose] public section

set_option maxRecDepth 16384

noncomputable section

namespace Cert.KernelIdeal.Hand

open Idealize.ShloMosaic
open Cert.KernelIdeal Cert.KernelIdeal.Gen
open Cert.Math (c0 low)

theorem pWt_at (w : Vec Ideal S896x128 .fp8e4m3) (r : Fin 128) (e : Fin 896) : pWt w (ix2 r e) = w (ix2 e r) := by
  pointwise [pWt]

theorem pWd_at (w : Vec Ideal S896x128 .fp8e4m3) (s : Vec Ideal S1x128 .f32) (e : Fin 896) (r : Fin 128) :
    pWd w s (ix2 e r) = w (ix2 e r) * s (ix2 0 r) := by
  pointwise [pWd]

theorem pSc_at (s : Vec Ideal S1x128 .f32) (r k : Fin 128) : pSc s (ix2 r k) = s (ix2 0 r) := by
  pointwise [pSc]

/-- The row before `i`, around the end. -/
def prv (i : Fin 64) : Fin 64 := ⟨(i.val + 63) % 64, Nat.mod_lt _ (by decide)⟩

/-- The row after `i`, around the end. -/
def nxt (i : Fin 64) : Fin 64 := ⟨(i.val + 1) % 64, Nat.mod_lt _ (by decide)⟩

theorem sel_row (i : Fin 64) (k : ℕ) (hk : k < 2 ^ 32) (a b : EReal) :
    Scalar.select (IntOp.cmpi .eq (BitVec.ofNat 32 i.val) (BitVec.ofNat 32 k)) a b = if i.val = k then a else b := by
  unfold Scalar.select
  have e : (IntOp.cmpi .eq (BitVec.ofNat 32 i.val) (BitVec.ofNat 32 k) = 1) ↔ i.val = k := by
    have h1 : (BitVec.ofNat 32 i.val = BitVec.ofNat 32 k) ↔ i.val = k := by
      constructor
      · intro h
        have := congrArg BitVec.toNat h
        simp only [BitVec.toNat_ofNat] at this
        omega
      · intro h; rw [h]
    unfold IntOp.cmpi
    by_cases h : i.val = k
    · rw [h]; simp
    · have h2 := (not_congr h1).2 h
      have h3 : (BitVec.ofNat 32 i.val == BitVec.ofNat 32 k) = false := by simpa using h2
      constructor
      · intro h4; rw [h3] at h4; change BitVec.ofBool false = 1#1 at h4; exact absurd h4 (by decide)
      · intro h4; exact absurd h4 h
  by_cases h : i.val = k
  · rw [if_pos (e.2 h), if_pos h]
  · rw [if_neg ((not_congr e).2 h), if_neg h]

/-- The transposed rows: the queries' half. -/
theorem pXt_lo (q0 q1 : Vec Ideal S1x64x128 .fp8e4m3) (d0 d1 : Vec Ideal S1x64x128 .fp8e5m2) (r : Fin 128) (i : Fin 64) :
    pXt q0 q1 d0 d1 (ix2 r ⟨i.val, by omega⟩) = if i.val = 0 then q0 (ix3 0 (prv i) r) else q1 (ix3 0 (prv i) r) := by
  rw [← sel_row i 0 (by decide)]
  pointwise [pXt]
  rfl

theorem pXt_hi (q0 q1 : Vec Ideal S1x64x128 .fp8e4m3) (d0 d1 : Vec Ideal S1x64x128 .fp8e5m2) (r : Fin 128) (i : Fin 64) :
    pXt q0 q1 d0 d1 (ix2 r ⟨64 + i.val, by omega⟩) = if i.val = 0 then d0 (ix3 0 (prv i) r) else d1 (ix3 0 (prv i) r) := by
  rw [← sel_row i 0 (by decide)]
  pointwise [pXt]
  rfl

theorem pQs_at (a b : Vec Ideal S1x64x16 .f32) (i : Fin 64) (h : Fin 16) :
    pQs a b (ix2 i h) = if i.val = 0 then a (ix3 0 (prv i) h) else b (ix3 0 (prv i) h) := by
  rw [← sel_row i 0 (by decide)]
  pointwise [pQs]
  rfl

theorem pQsT_at (a : FVec Ideal S64x16 .f32) (h : Fin 16) (i : Fin 64) : pQsT a (ix2 h i) = a (ix2 i h) := by
  pointwise [pQsT]

theorem pDosRow_at (a b : Vec Ideal S1x1x64 .f32) (i : Fin 64) :
    pDosRow a b (ix2 0 ⟨i.val, by omega⟩) = if i.val = 0 then a (ix3 0 0 (prv i)) else b (ix3 0 0 (prv i)) := by
  pointwise [pDosRow]
  by_cases h : i.val = 0
  · rw [if_pos h, dif_pos (by omega)]
    congr 2
    exact Fin.ext (by simp only [prv]; omega)
  · rw [if_neg h, dif_neg (by omega)]
    congr 2
    exact Fin.ext (by simp only [prv]; omega)

theorem pDosCol_at (a : FVec Ideal S1x128 .f32) (i : Fin 64) : pDosCol a (ix2 i 0) = a (ix2 0 ⟨i.val, by omega⟩) := by
  pointwise [pDosCol]

theorem pEs_at (a b : Vec Ideal S1x1x1x128 .f32) (i : Fin 256) :
    pEs a b (ix2 0 i) = if h : i.val < 128 then a (ix4 0 0 0 ⟨i.val, h⟩) else b (ix4 0 0 0 ⟨i.val - 128, by omega⟩) := by
  pointwise [pEs]

theorem pEmb_at (a : Vec Ideal S1x1x256x896 .fp8e4m3) (i : Fin 256) (e : Fin 896) : pEmb a (ix2 i e) = a (ix4 0 0 i e) := by
  pointwise [pEmb]

theorem pLive_at (u : Fin 8) (i : Fin 64) : pLive (BitVec.ofNat 32 u.val) (ix2 i 0) = BitVec.ofBool (Cert.Math.alive u i) := by
  have e : ∀ (u : Fin 8) (i : Fin 64), IntOp.cmpi CmpIPredicate.slt (IntOp.addi (Scalar.muli (BitVec.ofNat 32 u.val) 64#32) (BitVec.ofNat 32 i.val)) 449#32
      = BitVec.ofBool (Cert.Math.alive u i) := by decide
  pointwise [pLive, e]

theorem pProj_at (es : FVec Ideal S1x256 .f32) (emb : FVec Ideal S256x896 .fp8e4m3) (w : Vec Ideal S640x896 .fp8e4m3) (s : Vec Ideal S640x128 .f32)
    (r : Fin 640) (m : Fin 256) (c : EReal) (hs : ∀ k, s (ix2 r k) = c) :
    pProj es emb w s (ix2 r m) = (∑ e, w (ix2 r e) * emb (ix2 m e)) * es (ix2 0 m) * c := by
  pointwise [pProj]
  split
  · exact congrArg _ (hs _)
  · exact congrArg _ (hs _)

theorem pP_at (h : Fin 16) (qs : FVec Ideal S64x16 .f32) (x : Vec Ideal S160x128 .bf16) (k : Vec Ideal S160x256 .bf16) (i : Fin 64) (m : Fin 256)
    (sc : Fin 256 → EReal) (hsc : ∀ m, (∑ r, x (ix2 r ⟨i.val, by omega⟩) * k (ix2 r m)) * (c0 * qs (ix2 i h)) = sc m) :
    pP h qs x k (ix2 i m) = Ideal.div (Ideal.exp (sc m - Finset.fold max low sc Finset.univ))
      (∑ m, Ideal.exp (sc m - Finset.fold max low sc Finset.univ)) := by
  obtain rfl : _ = sc := funext hsc
  pointwise [pP]
  rfl

theorem pDp_at (d : FVec Ideal S64x1 .f32) (x : Vec Ideal S160x128 .bf16) (k : Vec Ideal S160x256 .bf16) (i : Fin 64) (m : Fin 256) :
    pDp d x k (ix2 i m) = (∑ r, x (ix2 r ⟨64 + i.val, by omega⟩) * k (ix2 r m)) * d (ix2 i 0) := by
  pointwise [pDp]

theorem pDs_at (live : IVec S64x1 1) (p dp : FVec Ideal S64x256 .f32) (i : Fin 64) (m : Fin 256) :
    pDs live p dp (ix2 i m) = Scalar.select (live (ix2 i 0)) (p (ix2 i m) * (dp (ix2 i m) - ∑ m, p (ix2 i m) * dp (ix2 i m))) 0 := by
  pointwise [pDs]

theorem pPb_at (live : IVec S64x1 1) (p : FVec Ideal S64x256 .f32) (i : Fin 64) (m : Fin 256) :
    pPb live p (ix2 i m) = Scalar.select (live (ix2 i 0)) (p (ix2 i m)) 0 := by
  pointwise [pPb]

theorem pXd_lo (h : Fin 16) (qsT : FVec Ideal S16x64 .f32) (dosR : FVec Ideal S1x128 .f32) (x : Vec Ideal S160x128 .bf16) (r : Fin 160) (i : Fin 64) :
    pXd h qsT dosR x (ix2 r ⟨i.val, by omega⟩) = x (ix2 r ⟨i.val, by omega⟩) * qsT (ix2 h i) := by
  pointwise [pXd]

theorem pXd_hi (h : Fin 16) (qsT : FVec Ideal S16x64 .f32) (dosR : FVec Ideal S1x128 .f32) (x : Vec Ideal S160x128 .bf16) (r : Fin 160) (i : Fin 64) :
    pXd h qsT dosR x (ix2 r ⟨64 + i.val, by omega⟩) = x (ix2 r ⟨64 + i.val, by omega⟩) * dosR (ix2 0 ⟨i.val, by omega⟩) := by
  pointwise [pXd]

theorem pDkOf_at (ds : FVec Ideal S64x256 .bf16) (xd : FVec Ideal S160x128 .bf16) (r : Fin 160) (m : Fin 256) :
    pDkOf pZ ds xd (ix2 r m) = c0 * ∑ i : Fin 64, xd (ix2 r ⟨i.val, by omega⟩) * ds (ix2 i m) := by
  pointwise [pDkOf, pZ]
  simp only [mul_zero, Finset.sum_const_zero, add_zero]
  rfl

theorem pDvOf_at (pb : FVec Ideal S64x256 .bf16) (xd : FVec Ideal S160x128 .bf16) (r : Fin 160) (m : Fin 256) :
    pDvOf pZ pb xd (ix2 r m) = ∑ i : Fin 64, xd (ix2 r ⟨64 + i.val, by omega⟩) * pb (ix2 i m) := by
  pointwise [pDvOf, pZ]
  simp only [mul_zero, Finset.sum_const_zero, zero_add]

theorem pDqOf_at (ds : FVec Ideal S64x256 .bf16) (k : Vec Ideal S160x256 .bf16) (i : Fin 64) (r : Fin 160) :
    pDqOf ds k (ix2 i r) = c0 * ∑ m, ds (ix2 i m) * k (ix2 r m) := by
  pointwise [pDqOf]
  rfl

/-- Four heads side by side, one row further: column `160 k + r` is column `r` of head `k`. -/
theorem pRoll_at (f : Fin 4 → FVec Ideal S64x160 .f32) (i : Fin 64) (k : Fin 4) (r : Fin 160) (j : Fin 640) (hj : j.val = 160 * k.val + r.val) :
    pRoll (f 0) (f 1) (f 2) (f 3) (ix2 i j) = f k (ix2 (nxt i) r) := by
  have ei : ∀ (k' : ℕ) (hk : k' < 160) (hk' : k' = r.val), ix2 (⟨(i.val + 64 - 63) % 64, Nat.mod_lt _ (by decide)⟩ : Fin 64) (⟨k', hk⟩ : Fin 160) = ix2 (nxt i) r := by
    intro k' hk hk'
    exact congrArg₂ ix2 (Fin.ext (by simp only [nxt]; omega)) (Fin.ext hk')
  have h1 := r.isLt
  pointwise [pRoll]
  fin_cases k <;> simp only [Fin.zero_eta, Fin.mk_one, Fin.reduceFinMk, Fin.isValue, Fin.val_zero, Fin.val_one, Fin.val_two] at hj ⊢
  · split
    · exact congrArg _ (ei _ _ (by omega))
    · exfalso; omega
  · split
    · exfalso; omega
    split
    · exact congrArg _ (ei _ _ (by omega))
    · exfalso; omega
  · split
    · exfalso; omega
    split
    · exfalso; omega
    split
    · exact congrArg _ (ei _ _ (by omega))
    · exfalso; omega
  · have h3 : (3 : Fin 4).val = 3 := rfl
    split
    · exfalso; omega
    split
    · exfalso; omega
    split
    · exfalso; omega
    · exact congrArg _ (ei _ _ (by omega))

theorem pDqOut_at (u : Fin 8) (a b : FVec Ideal S64x640 .f32) (i : Fin 64) (r : Fin 640) :
    pDqOut (BitVec.ofNat 32 u.val) a b (ix3 0 i r) = if i.val = 63 then a (ix2 i r) else if u.val = 0 then 0 else b (ix2 i r) := by
  rw [← sel_row i 63 (by decide)]
  have e : (if u.val = 0 then (0 : EReal) else b (ix2 i r)) = Scalar.select (Scalar.cmpi .eq (BitVec.ofNat 32 u.val) 0#32) 0 (b (ix2 i r)) := by
    fin_cases u <;> rfl
  rw [e]
  pointwise [pDqOut]

theorem pCarry_eq (a : FVec Ideal S64x640 .f32) : pCarry a = a := by
  funext j
  idx_vars j
  pointwise [pCarry]

theorem pDemb_at (a : Vec Ideal S896x2560 .bf16) (b : Vec Ideal S2560x256 .bf16) (c : Vec Ideal S896x2560 .bf16) (d : Vec Ideal S2560x256 .bf16)
    (m : Fin 256) (e : Fin 896) :
    pDemb a b c d (ix4 0 0 m e) = ∑ j, a (ix2 e j) * b (ix2 j m) + ∑ j, c (ix2 e j) * d (ix2 j m) := by
  pointwise [pDemb]

theorem pEd_at (es : FVec Ideal S1x256 .f32) (emb : FVec Ideal S256x896 .fp8e4m3) (e : Fin 896) (m : Fin 256) :
    pEd es emb (ix2 e m) = emb (ix2 m e) * es (ix2 0 m) := by
  pointwise [pEd]

theorem pDw_at (ed : FVec Ideal S896x256 .bf16) (a : Vec Ideal S896x2560 .f32) (d : Vec Ideal S2560x256 .bf16) (e : Fin 896) (j : Fin 2560) :
    pDw ed a d (ix2 e j) = a (ix2 e j) + ∑ m, ed (ix2 e m) * d (ix2 j m) := by
  pointwise [pDw]

theorem pZero_at (i : S896x2560.Idx) : pZero (F := Ideal) i = 0 := by
  pointwise [pZero]

end Cert.KernelIdeal.Hand
-- ==== Proof.KIdeal.Vals.lean ====
module

public import proofs.«01_k».proof.Proof.KIdeal.Pay
public import proofs.«01_k».proof.Proof.KIdeal.Blocks

/-! # What a point computes, as formulas on its chunk -/

@[expose] public section

set_option maxRecDepth 16384

noncomputable section

namespace Cert.KernelIdeal.Hand

open Idealize.ShloMosaic
open Cert.KernelIdeal Cert.KernelIdeal.Gen
open Idealize.ShloMosaic.VecWindow
open Cert.Math (Chunk c0 low col rest alive)

/-! ## Tiles and windows at plain coordinates -/

section Coords

variable {α : Type} {A B C D a b c d : ℕ}

theorem bd2 {o p : ℕ} {i : Fin A} {j : Fin B} (i' : Fin a) (j' : Fin b) (hi : i.val = o + i'.val) (hj : j.val = p + j'.val) :
    ∀ k : Fin 2, (![o, p] : Fin 2 → ℕ) k ≤ ((ix2 i j : (⟨2, ![A, B]⟩ : Shape).Idx) k).val ∧ ((ix2 i j : (⟨2, ![A, B]⟩ : Shape).Idx) k).val < (![o, p] : Fin 2 → ℕ) k + (⟨2, ![a, b]⟩ : Shape).size k := by
  have h1 := i'.isLt
  have h2 := j'.isLt
  intro k
  fin_cases k
  · show o ≤ i.val ∧ i.val < o + a
    omega
  · show p ≤ j.val ∧ j.val < p + b
    omega

theorem bd3 {o p q : ℕ} {i : Fin A} {j : Fin B} {k : Fin C} (i' : Fin a) (j' : Fin b) (k' : Fin c) (hi : i.val = o + i'.val) (hj : j.val = p + j'.val) (hk : k.val = q + k'.val) :
    ∀ l : Fin 3, (![o, p, q] : Fin 3 → ℕ) l ≤ ((ix3 i j k : (⟨3, ![A, B, C]⟩ : Shape).Idx) l).val ∧ ((ix3 i j k : (⟨3, ![A, B, C]⟩ : Shape).Idx) l).val < (![o, p, q] : Fin 3 → ℕ) l + (⟨3, ![a, b, c]⟩ : Shape).size l := by
  have h1 := i'.isLt
  have h2 := j'.isLt
  have h3 := k'.isLt
  intro l
  fin_cases l
  · show o ≤ i.val ∧ i.val < o + a
    omega
  · show p ≤ j.val ∧ j.val < p + b
    omega
  · show q ≤ k.val ∧ k.val < q + c
    omega

theorem loc2 {o p : ℕ} {i : Fin A} {j : Fin B} (i' : Fin a) (j' : Fin b) (hi : i.val = o + i'.val) (hj : j.val = p + j'.val)
    (h : ∀ k : Fin 2, (![o, p] : Fin 2 → ℕ) k ≤ ((ix2 i j : (⟨2, ![A, B]⟩ : Shape).Idx) k).val ∧ ((ix2 i j : (⟨2, ![A, B]⟩ : Shape).Idx) k).val < (![o, p] : Fin 2 → ℕ) k + (⟨2, ![a, b]⟩ : Shape).size k) :
    (Rect.unitLocal (s := ⟨2, ![A, B]⟩) (ix2 i j) h : (⟨2, ![a, b]⟩ : Shape).Idx) = ix2 i' j' := by
  funext k
  fin_cases k
  · refine Fin.ext ?_
    show i.val - o = i'.val
    omega
  · refine Fin.ext ?_
    show j.val - p = j'.val
    omega

theorem loc3 {o p q : ℕ} {i : Fin A} {j : Fin B} {k : Fin C} (i' : Fin a) (j' : Fin b) (k' : Fin c) (hi : i.val = o + i'.val) (hj : j.val = p + j'.val) (hk : k.val = q + k'.val)
    (h : ∀ l : Fin 3, (![o, p, q] : Fin 3 → ℕ) l ≤ ((ix3 i j k : (⟨3, ![A, B, C]⟩ : Shape).Idx) l).val ∧ ((ix3 i j k : (⟨3, ![A, B, C]⟩ : Shape).Idx) l).val < (![o, p, q] : Fin 3 → ℕ) l + (⟨3, ![a, b, c]⟩ : Shape).size l) :
    (Rect.unitLocal (s := ⟨3, ![A, B, C]⟩) (ix3 i j k) h : (⟨3, ![a, b, c]⟩ : Shape).Idx) = ix3 i' j' k' := by
  funext l
  fin_cases l
  · refine Fin.ext ?_
    show i.val - o = i'.val
    omega
  · refine Fin.ext ?_
    show j.val - p = j'.val
    omega
  · refine Fin.ext ?_
    show k.val - q = k'.val
    omega

theorem win2 {o p : ℕ} (x : (⟨2, ![A, B]⟩ : Shape).Idx → α) (inb : ∀ k : Fin 2, (![o, p] : Fin 2 → ℕ) k + (⟨2, ![a, b]⟩ : Shape).size k ≤ (⟨2, ![A, B]⟩ : Shape).size k)
    {i : Fin A} {j : Fin B} {i' : Fin a} {j' : Fin b} (hi : i.val = o + i'.val) (hj : j.val = p + j'.val) :
    window (s := ⟨2, ![A, B]⟩) x ![o, p] (⟨2, ![a, b]⟩ : Shape).size inb (ix2 i' j' : (⟨2, ![a, b]⟩ : Shape).Idx) = x (ix2 i j) := by
  refine congrArg x (funext fun k => ?_)
  fin_cases k
  · refine Fin.ext ?_
    show o + 1 * i'.val = i.val
    omega
  · refine Fin.ext ?_
    show p + 1 * j'.val = j.val
    omega

theorem win3 {o p q : ℕ} (x : (⟨3, ![A, B, C]⟩ : Shape).Idx → α) (inb : ∀ k : Fin 3, (![o, p, q] : Fin 3 → ℕ) k + (⟨3, ![a, b, c]⟩ : Shape).size k ≤ (⟨3, ![A, B, C]⟩ : Shape).size k)
    {i : Fin A} {j : Fin B} {k : Fin C} {i' : Fin a} {j' : Fin b} {k' : Fin c} (hi : i.val = o + i'.val) (hj : j.val = p + j'.val) (hk : k.val = q + k'.val) :
    window (s := ⟨3, ![A, B, C]⟩) x ![o, p, q] (⟨3, ![a, b, c]⟩ : Shape).size inb (ix3 i' j' k' : (⟨3, ![a, b, c]⟩ : Shape).Idx) = x (ix3 i j k) := by
  refine congrArg x (funext fun l => ?_)
  fin_cases l
  · refine Fin.ext ?_
    show o + 1 * i'.val = i.val
    omega
  · refine Fin.ext ?_
    show p + 1 * j'.val = j.val
    omega
  · refine Fin.ext ?_
    show q + 1 * k'.val = k.val
    omega

theorem win4 {o p q r : ℕ} (x : (⟨4, ![A, B, C, D]⟩ : Shape).Idx → α) (inb : ∀ k : Fin 4, (![o, p, q, r] : Fin 4 → ℕ) k + (⟨4, ![a, b, c, d]⟩ : Shape).size k ≤ (⟨4, ![A, B, C, D]⟩ : Shape).size k)
    {i : Fin A} {j : Fin B} {k : Fin C} {m : Fin D} {i' : Fin a} {j' : Fin b} {k' : Fin c} {m' : Fin d} (hi : i.val = o + i'.val) (hj : j.val = p + j'.val) (hk : k.val = q + k'.val) (hm : m.val = r + m'.val) :
    window (s := ⟨4, ![A, B, C, D]⟩) x ![o, p, q, r] (⟨4, ![a, b, c, d]⟩ : Shape).size inb (ix4 i' j' k' m' : (⟨4, ![a, b, c, d]⟩ : Shape).Idx) = x (ix4 i j k m) := by
  refine congrArg x (funext fun l => ?_)
  fin_cases l
  · refine Fin.ext ?_
    show o + 1 * i'.val = i.val
    omega
  · refine Fin.ext ?_
    show p + 1 * j'.val = j.val
    omega
  · refine Fin.ext ?_
    show q + 1 * k'.val = k.val
    omega
  · refine Fin.ext ?_
    show r + 1 * m'.val = m.val
    omega

end Coords

/-- The tile of a column, tiles 128 wide. -/
def t128 (j : Fin 2560) : Fin 20 := ⟨j.val / 128, by omega⟩
/-- The place of a column within its tile. -/
def r128 (j : Fin 2560) : Fin 128 := ⟨j.val % 128, by omega⟩
theorem e128 (j : Fin 2560) : j.val = 128 * (t128 j).val + (r128 j).val := by simp only [t128, r128]; omega
/-- The group of heads of a column. -/
def t640 (j : Fin 2560) : Fin 4 := ⟨j.val / 640, by omega⟩
/-- The place of a column within its group. -/
def r640 (j : Fin 2560) : Fin 640 := ⟨j.val % 640, by omega⟩
theorem e640 (j : Fin 2560) : j.val = 640 * (t640 j).val + (r640 j).val := by simp only [t640, r640]; omega
theorem e160 (j : Fin 2560) : j.val = 160 * (Cert.Math.hd j).val + (rest j).val := by simp only [Cert.Math.hd, rest]; omega
theorem z0 {n : ℕ} (j : Fin n) : j.val = 0 + j.val := (Nat.zero_add _).symm

/-! ## A point's chunk -/

/-- The chunk a point computes on. -/
def Ins.chunk (I : Ins Ideal) (u : Fin 8) : Chunk where
  x i j := if i.val = 0 then I.x4 (ix3 0 (prv i) j) else I.x5 (ix3 0 (prv i) j)
  s i h := if i.val = 0 then I.x8 (ix3 0 (prv i) h) else I.x9 (ix3 0 (prv i) h)
  g i j := if i.val = 0 then I.x6 (ix3 0 (prv i) j) else I.x7 (ix3 0 (prv i) j)
  d i := if i.val = 0 then I.x10 (ix3 0 0 (prv i)) else I.x11 (ix3 0 0 (prv i))
  live := alive u
  em m e := I.x2 (ix4 0 0 m e)
  es m := I.x3 (ix4 0 0 ⟨m.val / 128, by omega⟩ ⟨m.val % 128, by omega⟩)
  wk e j := I.x12 (ix2 e j)
  wv e j := I.x13 (ix2 e j)
  ks j := I.x14 (ix2 0 j)
  vs j := I.x15 (ix2 0 j)

variable (I : Ins Ideal) (u : Fin 8)

theorem Ins.es_at (m : Fin 256) : I.es (ix2 0 m) = (I.chunk u).es m := by
  unfold Ins.es
  rw [pEs_at]
  split
  · rename_i h
    exact win4 I.x3 _ rfl rfl (by simp; omega) (by simp; omega)
  · rename_i h
    exact win4 I.x3 _ rfl rfl (by simp; omega) (by simp; omega)

theorem Ins.emb_at (m : Fin 256) (e : Fin 896) : I.emb (ix2 m e) = (I.chunk u).em m e := by
  unfold Ins.emb
  rw [pEmb_at]
  exact win4 I.x2 _ rfl rfl (z0 _) (z0 _)

theorem Ins.qs_at (i : Fin 64) (h : Fin 16) : I.qs (ix2 i h) = (I.chunk u).s i h := by
  unfold Ins.qs
  rw [pQs_at]
  exact congrArg₂ (fun a b => if i.val = 0 then a else b) (win3 I.x8 _ rfl (z0 _) (z0 _)) (win3 I.x9 _ rfl (z0 _) (z0 _))

theorem Ins.dosR_at (i : Fin 64) : I.dosR (ix2 0 ⟨i.val, by omega⟩) = (I.chunk u).d i := by
  unfold Ins.dosR
  rw [pDosRow_at]
  exact congrArg₂ (fun a b => if i.val = 0 then a else b) (win3 I.x10 _ rfl rfl (z0 _)) (win3 I.x11 _ rfl rfl (z0 _))

theorem Ins.ed_at (e : Fin 896) (m : Fin 256) : I.ed (ix2 e m) = (I.chunk u).em m e * (I.chunk u).es m := by
  unfold Ins.ed
  rw [pEd_at, I.es_at u, I.emb_at u]

theorem Ins.T20_at (j : Fin 2560) (e : Fin 896) : I.T20 (ix2 j e) = (I.chunk u).wk e j := by
  refine (I.T20_tile (t128 j) (ix2 j e) (bd2 (r128 j) e (e128 j) (z0 e))).symm.trans ?_
  rw [loc2 (r128 j) e (e128 j) (z0 e), pWt_at]
  exact win2 I.x12 _ (z0 _) (e128 j)

theorem Ins.T21_at (j : Fin 2560) (e : Fin 896) : I.T21 (ix2 j e) = (I.chunk u).wv e j := by
  refine (I.T21_tile (t128 j) (ix2 j e) (bd2 (r128 j) e (e128 j) (z0 e))).symm.trans ?_
  rw [loc2 (r128 j) e (e128 j) (z0 e), pWt_at]
  exact win2 I.x13 _ (z0 _) (e128 j)

theorem Ins.T22_at (e : Fin 896) (j : Fin 2560) : I.T22 (ix2 e j) = (I.chunk u).wk e j * (I.chunk u).ks j := by
  refine (I.T22_tile (t128 j) (ix2 e j) (bd2 e (r128 j) (z0 e) (e128 j))).symm.trans ?_
  rw [loc2 e (r128 j) (z0 e) (e128 j), pWd_at]
  exact congrArg₂ (· * ·) (win2 I.x12 _ (z0 _) (e128 j)) (win2 I.x14 _ (z0 _) (e128 j))

theorem Ins.T23_at (e : Fin 896) (j : Fin 2560) : I.T23 (ix2 e j) = (I.chunk u).wv e j * (I.chunk u).vs j := by
  refine (I.T23_tile (t128 j) (ix2 e j) (bd2 e (r128 j) (z0 e) (e128 j))).symm.trans ?_
  rw [loc2 e (r128 j) (z0 e) (e128 j), pWd_at]
  exact congrArg₂ (· * ·) (win2 I.x13 _ (z0 _) (e128 j)) (win2 I.x15 _ (z0 _) (e128 j))

theorem Ins.T24_at (j : Fin 2560) (k : Fin 128) : I.T24 (ix2 j k) = (I.chunk u).ks j := by
  refine (I.T24_tile (t128 j) (ix2 j k) (bd2 (r128 j) k (e128 j) (z0 k))).symm.trans ?_
  rw [loc2 (r128 j) k (e128 j) (z0 k), pSc_at]
  exact win2 I.x14 _ (z0 _) (e128 j)

theorem Ins.T25_at (j : Fin 2560) (k : Fin 128) : I.T25 (ix2 j k) = (I.chunk u).vs j := by
  refine (I.T25_tile (t128 j) (ix2 j k) (bd2 (r128 j) k (e128 j) (z0 k))).symm.trans ?_
  rw [loc2 (r128 j) k (e128 j) (z0 k), pSc_at]
  exact win2 I.x15 _ (z0 _) (e128 j)

theorem Ins.T26_lo (j : Fin 2560) (i : Fin 64) : I.T26 (ix2 j ⟨i.val, by omega⟩) = (I.chunk u).x i j := by
  refine (I.T26_tile (t128 j) (ix2 j ⟨i.val, by omega⟩) (bd2 (r128 j) ⟨i.val, by omega⟩ (e128 j) (z0 _))).symm.trans ?_
  rw [loc2 (r128 j) ⟨i.val, by omega⟩ (e128 j) (z0 _), pXt_lo]
  exact congrArg₂ (fun a b => if i.val = 0 then a else b) (win3 I.x4 _ rfl (z0 _) (e128 j)) (win3 I.x5 _ rfl (z0 _) (e128 j))

theorem Ins.T26_hi (j : Fin 2560) (i : Fin 64) : I.T26 (ix2 j ⟨64 + i.val, by omega⟩) = (I.chunk u).g i j := by
  refine (I.T26_tile (t128 j) (ix2 j ⟨64 + i.val, by omega⟩) (bd2 (r128 j) ⟨64 + i.val, by omega⟩ (e128 j) (z0 _))).symm.trans ?_
  rw [loc2 (r128 j) ⟨64 + i.val, by omega⟩ (e128 j) (z0 _), pXt_hi]
  exact congrArg₂ (fun a b => if i.val = 0 then a else b) (win3 I.x6 _ rfl (z0 _) (e128 j)) (win3 I.x7 _ rfl (z0 _) (e128 j))

theorem Ins.T27_at (j : Fin 2560) (m : Fin 256) : I.T27 (ix2 j m) = (I.chunk u).K j m := by
  refine (I.T27_tile (t640 j) (ix2 j m) (bd2 (r640 j) m (e640 j) (z0 m))).symm.trans ?_
  rw [loc2 (r640 j) m (e640 j) (z0 m), pProj_at (c := (I.chunk u).ks j) (hs := fun k => (win2 I.T24 _ (e640 j) (z0 k)).trans (I.T24_at u j k)), I.es_at u]
  unfold Chunk.K Chunk.proj
  refine congrArg (fun t => t * _ * _) (Finset.sum_congr rfl fun e _ => ?_)
  rw [I.emb_at u]
  exact congrArg (· * _) ((win2 I.T20 _ (e640 j) (z0 e)).trans (I.T20_at u j e))

theorem Ins.T28_at (j : Fin 2560) (m : Fin 256) : I.T28 (ix2 j m) = (I.chunk u).V j m := by
  refine (I.T28_tile (t640 j) (ix2 j m) (bd2 (r640 j) m (e640 j) (z0 m))).symm.trans ?_
  rw [loc2 (r640 j) m (e640 j) (z0 m), pProj_at (c := (I.chunk u).vs j) (hs := fun k => (win2 I.T25 _ (e640 j) (z0 k)).trans (I.T25_at u j k)), I.es_at u]
  unfold Chunk.V Chunk.proj
  refine congrArg (fun t => t * _ * _) (Finset.sum_congr rfl fun e _ => ?_)
  rw [I.emb_at u]
  exact congrArg (· * _) ((win2 I.T21 _ (e640 j) (z0 e)).trans (I.T21_at u j e))

/-! ## A head -/

/-- What a head loads of the queries and gradients. -/
def Ins.hx (h : Fin 16) : Vec Ideal S160x128 .bf16 := window (s := S2560x128) I.T26 ![160 * h.val, 0] S160x128.size (inbHx h)
/-- What a head loads of the keys. -/
def Ins.hk (h : Fin 16) : Vec Ideal S160x256 .bf16 := window (s := S2560x256) I.T27 ![160 * h.val, 0] S160x256.size (inbHk h)
/-- What a head loads of the values. -/
def Ins.hv (h : Fin 16) : Vec Ideal S160x256 .bf16 := window (s := S2560x256) I.T28 ![160 * h.val, 0] S160x256.size (inbHk h)

theorem Ins.hx_lo (h : Fin 16) (r : Fin 160) (i : Fin 64) : I.hx h (ix2 r ⟨i.val, by omega⟩) = (I.chunk u).x i (col h r) :=
  (win2 I.T26 _ rfl (z0 _)).trans (I.T26_lo u (col h r) i)
theorem Ins.hx_hi (h : Fin 16) (r : Fin 160) (i : Fin 64) : I.hx h (ix2 r ⟨64 + i.val, by omega⟩) = (I.chunk u).g i (col h r) :=
  (win2 I.T26 _ rfl (z0 _)).trans (I.T26_hi u (col h r) i)
theorem Ins.hk_at (h : Fin 16) (r : Fin 160) (m : Fin 256) : I.hk h (ix2 r m) = (I.chunk u).K (col h r) m :=
  (win2 I.T27 _ rfl (z0 _)).trans (I.T27_at u (col h r) m)
theorem Ins.hv_at (h : Fin 16) (r : Fin 160) (m : Fin 256) : I.hv h (ix2 r m) = (I.chunk u).V (col h r) m :=
  (win2 I.T28 _ rfl (z0 _)).trans (I.T28_at u (col h r) m)

theorem Ins.p_at (h : Fin 16) (i : Fin 64) (m : Fin 256) : pP h I.qs (I.hx h) (I.hk h) (ix2 i m) = (I.chunk u).p h i m :=
  pP_at h I.qs (I.hx h) (I.hk h) i m ((I.chunk u).sc h i) fun m => by
    unfold Chunk.sc
    rw [I.qs_at u]
    exact congrArg (· * _) (Finset.sum_congr rfl fun r _ => congrArg₂ (· * ·) (I.hx_lo u h r i) (I.hk_at u h r m))

theorem Ins.dp_at (h : Fin 16) (i : Fin 64) (m : Fin 256) : pDp (pDosCol I.dosR) (I.hx h) (I.hv h) (ix2 i m) = (I.chunk u).dp h i m := by
  rw [pDp_at, pDosCol_at, I.dosR_at u]
  exact congrArg (· * _) (Finset.sum_congr rfl fun r _ => congrArg₂ (· * ·) (I.hx_hi u h r i) (I.hv_at u h r m))

theorem sel_bool (b : Bool) (x y : EReal) : Scalar.select (BitVec.ofBool b) x y = if b then x else y := by
  cases b <;> rfl

variable {I} {u}

theorem Ins.ds_at (hu : I.u = BitVec.ofNat 32 u.val) (h : Fin 16) (i : Fin 64) (m : Fin 256) :
    pDs (pLive I.u) (pP h I.qs (I.hx h) (I.hk h)) (pDp (pDosCol I.dosR) (I.hx h) (I.hv h)) (ix2 i m) = (I.chunk u).ds h i m := by
  rw [pDs_at, hu, pLive_at, sel_bool]
  simp only [I.p_at u, I.dp_at u]
  rfl

theorem Ins.pb_at (hu : I.u = BitVec.ofNat 32 u.val) (h : Fin 16) (i : Fin 64) (m : Fin 256) :
    pPb (pLive I.u) (pP h I.qs (I.hx h) (I.hk h)) (ix2 i m) = (I.chunk u).pb h i m := by
  rw [pPb_at, hu, pLive_at, sel_bool, I.p_at u]
  rfl

theorem Ins.xd_lo (h : Fin 16) (r : Fin 160) (i : Fin 64) :
    pXd h (pQsT I.qs) I.dosR (I.hx h) (ix2 r ⟨i.val, by omega⟩) = (I.chunk u).x i (col h r) * (I.chunk u).s i h := by
  rw [pXd_lo, pQsT_at, I.qs_at u, I.hx_lo u]

theorem Ins.xd_hi (h : Fin 16) (r : Fin 160) (i : Fin 64) :
    pXd h (pQsT I.qs) I.dosR (I.hx h) (ix2 r ⟨64 + i.val, by omega⟩) = (I.chunk u).g i (col h r) * (I.chunk u).d i := by
  rw [pXd_hi, I.dosR_at u, I.hx_hi u]

theorem Ins.T29_at (hu : I.u = BitVec.ofNat 32 u.val) (j : Fin 2560) (m : Fin 256) : I.T29 (ix2 j m) = (I.chunk u).dk j m := by
  refine (I.T29_tile (Cert.Math.hd j) (ix2 j m) (bd2 (rest j) m (e160 j) (z0 m))).symm.trans ?_
  rw [loc2 (rest j) m (e160 j) (z0 m)]
  refine (pDkOf_at _ _ (rest j) m).trans (congrArg (c0 * ·) (Finset.sum_congr rfl fun i _ => ?_))
  refine (congrArg₂ (· * ·) (Ins.xd_lo (u := u) (Cert.Math.hd j) (rest j) i) (Ins.ds_at hu (Cert.Math.hd j) i m)).trans ?_
  rw [Cert.Math.col_hd_rest]

theorem Ins.T30_at (hu : I.u = BitVec.ofNat 32 u.val) (j : Fin 2560) (m : Fin 256) : I.T30 (ix2 j m) = (I.chunk u).dv j m := by
  refine (I.T30_tile (Cert.Math.hd j) (ix2 j m) (bd2 (rest j) m (e160 j) (z0 m))).symm.trans ?_
  rw [loc2 (rest j) m (e160 j) (z0 m)]
  refine (pDvOf_at _ _ (rest j) m).trans (Finset.sum_congr rfl fun i _ => ?_)
  refine (congrArg₂ (· * ·) (Ins.xd_hi (u := u) (Cert.Math.hd j) (rest j) i) (Ins.pb_at hu (Cert.Math.hd j) i m)).trans ?_
  rw [Cert.Math.col_hd_rest]

theorem Ins.dqHead_at (hu : I.u = BitVec.ofNat 32 u.val) (h : Fin 16) (i : Fin 64) (r : Fin 160) :
    I.dqHead h (ix2 i r) = (I.chunk u).dq i (col h r) := by
  refine (pDqOf_at _ _ i r).trans ?_
  unfold Chunk.dq
  rw [Cert.Math.hd_col]
  exact congrArg (c0 * ·) (Finset.sum_congr rfl fun m _ => congrArg₂ (· * ·) (Ins.ds_at hu h i m) (I.hk_at u h r m))

/-- The four heads of a group side by side, one row further. -/
theorem Ins.roll_at (hu : I.u = BitVec.ofNat 32 u.val) (i : Fin 64) (j : Fin 2560) :
    pRoll (I.dqHead (hd (t640 j) 0)) (I.dqHead (hd (t640 j) 1)) (I.dqHead (hd (t640 j) 2)) (I.dqHead (hd (t640 j) 3)) (ix2 i (r640 j))
      = (I.chunk u).dq (nxt i) j := by
  refine (pRoll_at (fun k => I.dqHead (hd (t640 j) k)) i ⟨j.val % 640 / 160, by omega⟩ (rest j) (r640 j) (by simp only [r640, rest]; omega)).trans ?_
  refine (Ins.dqHead_at hu _ _ _).trans (congrArg _ (Fin.ext ?_))
  simp only [col, hd, t640, rest]
  omega

theorem Ins.T31_at (hu : I.u = BitVec.ofNat 32 u.val) (i : Fin 64) (j : Fin 2560) : I.T31 (ix2 i j) = (I.chunk u).dq (nxt i) j := by
  refine (I.T31_tile (t640 j) (ix2 i j) (bd2 i (r640 j) (z0 i) (e640 j))).symm.trans ?_
  rw [loc2 i (r640 j) (z0 i) (e640 j), pCarry_eq]
  exact Ins.roll_at hu i j

theorem Ins.T16_at (hu : I.u = BitVec.ofNat 32 u.val) (C : Vec Ideal S64x2560 .f32) (i : Fin 64) (j : Fin 2560) :
    I.T16 C (ix3 0 i j) = if i.val = 63 then (I.chunk u).dq (nxt i) j else if u.val = 0 then 0 else C (ix2 i j) := by
  refine (I.T16_tile C (t640 j) (ix3 0 i j) (bd3 0 i (r640 j) rfl (z0 i) (e640 j))).symm.trans ?_
  rw [loc3 0 i (r640 j) rfl (z0 i) (e640 j), hu, pDqOut_at]
  exact congrArg₂ (fun a b => if i.val = 63 then a else if u.val = 0 then 0 else b) (Ins.roll_at hu i j) (win2 C _ (z0 i) (e640 j))

theorem Ins.T17_at (hu : I.u = BitVec.ofNat 32 u.val) (m : Fin 256) (e : Fin 896) : I.T17 (ix4 0 0 m e) = (I.chunk u).demb m e := by
  refine (pDemb_at _ _ _ _ m e).trans ?_
  exact congrArg₂ (· + ·)
    (Finset.sum_congr rfl fun j _ => congrArg₂ (· * ·) ((win2 I.T22 _ (z0 _) (z0 _)).trans (I.T22_at u e j)) ((win2 I.T29 _ (z0 _) (z0 _)).trans (Ins.T29_at hu j m)))
    (Finset.sum_congr rfl fun j _ => congrArg₂ (· * ·) ((win2 I.T23 _ (z0 _) (z0 _)).trans (I.T23_at u e j)) ((win2 I.T30 _ (z0 _) (z0 _)).trans (Ins.T30_at hu j m)))

theorem Ins.T18_at (hu : I.u = BitVec.ofNat 32 u.val) (D : Vec Ideal S896x2560 .f32) (e : Fin 896) (j : Fin 2560) :
    I.T18 D (ix2 e j) = D (ix2 e j) + (I.chunk u).dw (I.chunk u).dk e j := by
  refine (pDw_at _ _ _ e j).trans ?_
  exact congrArg₂ (· + ·) (win2 D _ (z0 _) (z0 _))
    (Finset.sum_congr rfl fun m _ => congrArg₂ (· * ·) (I.ed_at u e m) ((win2 I.T29 _ (z0 _) (z0 _)).trans (Ins.T29_at hu j m)))

theorem Ins.T19_at (hu : I.u = BitVec.ofNat 32 u.val) (D : Vec Ideal S896x2560 .f32) (e : Fin 896) (j : Fin 2560) :
    I.T19 D (ix2 e j) = D (ix2 e j) + (I.chunk u).dw (I.chunk u).dv e j := by
  refine (pDw_at _ _ _ e j).trans ?_
  exact congrArg₂ (· + ·) (win2 D _ (z0 _) (z0 _))
    (Finset.sum_congr rfl fun m _ => congrArg₂ (· * ·) (I.ed_at u e m) ((win2 I.T30 _ (z0 _) (z0 _)).trans (Ins.T30_at hu j m)))

end Cert.KernelIdeal.Hand
-- ==== Proof.KIdeal.Reads.lean ====
module

public import proofs.«01_k».proof.Proof.KIdeal.Vals
public import proofs.«01_k».proof.Proof.KIdeal.Run
public import Idealize.ShloMosaic.Lib.Pipeline.ValueKit

/-!
The blocks each point is given, as elements of the arguments: point `8 b + u` works on chunk `u` of sequence `b`. Its
chunk is the one the problem's data has there, but for the slots past the end of the sequence.
-/

@[expose] public section

namespace Cert.KernelIdeal.Hand

open Idealize.ShloMosaic Idealize.ShloMosaic.TcCoe Idealize.ShloMosaic.Tactic
open Idealize.SL Idealize.SL.RA
open Cert.KernelIdeal Cert.KernelIdeal.Gen
open Cert.Math (Chunk Data rest tok alive)

variable (m : (ℓ : Loc nD τ sig) → Buf (Elt Ideal) ℓ) (c : Dev nD) (t : Fin cfg0.N)

/-! ## Where the blocks lie -/

/-- The sequence point `t` works on. -/
def bOf (t : Fin cfg0.N) : Fin 4 := ⟨t.val / 8, by have : t.val < 32 := t.isLt; omega⟩
/-- The chunk point `t` works on. -/
def uOf (t : Fin cfg0.N) : Fin 8 := ⟨t.val % 8, by omega⟩

theorem idx0 : ∀ t : Fin cfg0.N, win0_0.index t = ![(bOf t).val, (uOf t).val, 0, 0] := (by decide +kernel : ∀ t : Fin grid0.N, _)
theorem idx1 : ∀ t : Fin cfg0.N, win0_1.index t = ![(bOf t).val, (uOf t).val, 0, 0] := (by decide +kernel : ∀ t : Fin grid0.N, _)
theorem idx2 : ∀ t : Fin cfg0.N, win0_2.index t = ![(bOf t).val, (uOf t).val, 0] := (by decide +kernel : ∀ t : Fin grid0.N, _)
theorem idx3 : ∀ t : Fin cfg0.N, win0_3.index t = ![(bOf t).val, min ((uOf t).val + 1) 7, 0] := (by decide +kernel : ∀ t : Fin grid0.N, _)
theorem idx4 : ∀ t : Fin cfg0.N, win0_4.index t = ![(bOf t).val, (uOf t).val, 0] := (by decide +kernel : ∀ t : Fin grid0.N, _)
theorem idx5 : ∀ t : Fin cfg0.N, win0_5.index t = ![(bOf t).val, min ((uOf t).val + 1) 7, 0] := (by decide +kernel : ∀ t : Fin grid0.N, _)
theorem idx6 : ∀ t : Fin cfg0.N, win0_6.index t = ![(bOf t).val, (uOf t).val, 0] := (by decide +kernel : ∀ t : Fin grid0.N, _)
theorem idx7 : ∀ t : Fin cfg0.N, win0_7.index t = ![(bOf t).val, min ((uOf t).val + 1) 7, 0] := (by decide +kernel : ∀ t : Fin grid0.N, _)
theorem idx8 : ∀ t : Fin cfg0.N, win0_8.index t = ![8 * (bOf t).val + (uOf t).val, 0, 0] := (by decide +kernel : ∀ t : Fin grid0.N, _)
theorem idx9 : ∀ t : Fin cfg0.N, win0_9.index t = ![8 * (bOf t).val + min ((uOf t).val + 1) 7, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![(bOf t).val, (uOf t).val, 0] := (by decide +kernel : ∀ t : Fin grid0.N, _)
theorem idx15 : ∀ t : Fin cfg0.N, win0_15.index t = ![(bOf t).val, (uOf t).val, 0, 0] := (by decide +kernel : ∀ t : Fin grid0.N, _)

theorem coords_u : ∀ t : Fin cfg0.N, ((grid0.coords t) 1).val = (uOf t).val := (by decide +kernel : ∀ t : Fin grid0.N, _)

theorem ins_u : (ins m c t).u = BitVec.ofNat 32 (uOf t).val := congrArg (BitVec.ofNat 32) (coords_u t)

/-! ## What they hold -/

/-- The row of the next block's row `i`, in the sequence; the last chunk takes its own block again. -/
def nrow (u : Fin 8) (i : Fin 64) : Fin 512 := ⟨min (u.val + 1) 7 * 64 + i.val, by omega⟩
/-- The row of the own block's row `i`, in the sequence. -/
def orow (u : Fin 8) (i : Fin 64) : Fin 512 := ⟨u.val * 64 + i.val, by omega⟩

/-! ### The reshaped arguments -/

theorem cast0 (X : S4x512x16x160.Idx → EReal) (b : Fin 4) (i : Fin 512) (j : Fin 2560) :
    shapeCast S4x512x2560 X shapeCasts_S4x512x16x160_S4x512x2560 (ix3 b i j) = X (ix4 b i (Cert.Math.hd j) (rest j)) := by
  pointwise []
  rfl

theorem cast1 (X : S4x512.Idx → EReal) (b : Fin 4) (u : Fin 8) (i : Fin 64) :
    shapeCast S32x1x64 X shapeCasts_S4x512_S32x1x64 (ix3 ⟨8 * b.val + u.val, by omega⟩ 0 i) = X (ix2 b ⟨u.val * 64 + i.val, by omega⟩) := by
  pointwise []
  exact congrArg X (by idx_ext)

theorem cast2 (X : S4x8x2x128x896.Idx → EReal) (b : Fin 4) (u : Fin 8) (k : Fin 256) (e : Fin 896) :
    shapeCast S4x8x256x896 X shapeCasts_S4x8x2x128x896_S4x8x256x896 (ix4 b u k e) =
      X (ix5 b u ⟨k.val / 128, by omega⟩ ⟨k.val % 128, by omega⟩ e) := by
  pointwise []

theorem cast3 (X : S2560.Idx → EReal) (j : Fin 2560) : shapeCast S1x2560 X shapeCasts_S2560_S1x2560 (ix2 0 j) = X (ix1 j) := by
  pointwise []

theorem v0_eq : V m c main_v0 = shapeCast S4x512x2560 (m (c.tc.loc main_arg0)) shapeCasts_S4x512x16x160_S4x512x2560 := by
  rfl
theorem v1_eq : V m c main_v1 = shapeCast S32x1x64 (m (c.tc.loc main_arg3)) shapeCasts_S4x512_S32x1x64 := by
  rfl
theorem v2_eq : V m c main_v2 = shapeCast S4x8x256x896 (m (c.tc.loc main_arg4)) shapeCasts_S4x8x2x128x896_S4x8x256x896 := by
  rfl
theorem v3_eq : V m c main_v3 = shapeCast S1x2560 (m (c.tc.loc main_arg8)) shapeCasts_S2560_S1x2560 := by
  rfl
theorem v4_eq : V m c main_v4 = shapeCast S1x2560 (m (c.tc.loc main_arg9)) shapeCasts_S2560_S1x2560 := by
  rfl

theorem rd0 (k : Fin 256) (e : Fin 896) : iblk m c 0 t (ix4 0 0 k e) =
    m (c.tc.loc main_arg4) (ix5 (bOf t) (uOf t) ⟨k.val / 128, by omega⟩ ⟨k.val % 128, by omega⟩ e) := by
  refine (congrArg (V m c main_v2) (?_ : (win0_0.blk t).view.emb _ = ix4 (bOf t) (uOf t) k e)).trans
    ((congrFun (v2_eq m c) _).trans (cast2 _ _ _ _ _))
  blk_ext [idx0 t, orow, nrow]

theorem rd1 (k : Fin 2) (l : Fin 128) : iblk m c 1 t (ix4 0 0 k l) = m (c.tc.loc main_arg5) (ix4 (bOf t) (uOf t) k l) := by
  blk_ext! [iblk, V, idx1 t]

theorem rd2 (i : Fin 64) (j : Fin 2560) : iblk m c 2 t (ix3 0 i j) =
    m (c.tc.loc main_arg0) (ix4 (bOf t) (orow (uOf t) i) (Cert.Math.hd j) (rest j)) := by
  refine (congrArg (V m c main_v0) (?_ : (win0_2.blk t).view.emb _ = ix3 (bOf t) (orow (uOf t) i) j)).trans
    ((congrFun (v0_eq m c) _).trans (cast0 _ _ _ _))
  blk_ext [idx2 t, orow, nrow]

theorem rd3 (i : Fin 64) (j : Fin 2560) : iblk m c 3 t (ix3 0 i j) =
    m (c.tc.loc main_arg0) (ix4 (bOf t) (nrow (uOf t) i) (Cert.Math.hd j) (rest j)) := by
  refine (congrArg (V m c main_v0) (?_ : (win0_3.blk t).view.emb _ = ix3 (bOf t) (nrow (uOf t) i) j)).trans
    ((congrFun (v0_eq m c) _).trans (cast0 _ _ _ _))
  blk_ext [idx3 t, orow, nrow]

theorem rd4 (i : Fin 64) (j : Fin 2560) : iblk m c 4 t (ix3 0 i j) = m (c.tc.loc main_arg2) (ix3 (bOf t) (orow (uOf t) i) j) := by
  blk_ext! [iblk, V, idx4 t, orow]

theorem rd5 (i : Fin 64) (j : Fin 2560) : iblk m c 5 t (ix3 0 i j) = m (c.tc.loc main_arg2) (ix3 (bOf t) (nrow (uOf t) i) j) := by
  blk_ext! [iblk, V, idx5 t, nrow]

theorem rd6 (i : Fin 64) (h : Fin 16) : iblk m c 6 t (ix3 0 i h) = m (c.tc.loc main_arg1) (ix3 (bOf t) (orow (uOf t) i) h) := by
  blk_ext! [iblk, V, idx6 t, orow]

theorem rd7 (i : Fin 64) (h : Fin 16) : iblk m c 7 t (ix3 0 i h) = m (c.tc.loc main_arg1) (ix3 (bOf t) (nrow (uOf t) i) h) := by
  blk_ext! [iblk, V, idx7 t, nrow]

theorem rd8 (i : Fin 64) : iblk m c 8 t (ix3 0 0 i) = m (c.tc.loc main_arg3) (ix2 (bOf t) (orow (uOf t) i)) := by
  refine (congrArg (V m c main_v1) (?_ : (win0_8.blk t).view.emb _ = ix3 ⟨8 * (bOf t).val + (uOf t).val, by omega⟩ 0 i)).trans
    ((congrFun (v1_eq m c) _).trans (cast1 _ _ (uOf t) i))
  blk_ext [idx8 t, orow, nrow]

theorem rd9 (i : Fin 64) : iblk m c 9 t (ix3 0 0 i) = m (c.tc.loc main_arg3) (ix2 (bOf t) (nrow (uOf t) i)) := by
  refine (congrArg (V m c main_v1) (?_ : (win0_9.blk t).view.emb _ = ix3 ⟨8 * (bOf t).val + min ((uOf t).val + 1) 7, by omega⟩ 0 i)).trans
    ((congrFun (v1_eq m c) _).trans (cast1 _ _ ⟨min ((uOf t).val + 1) 7, by omega⟩ i))
  blk_ext [idx9 t, orow, nrow]

theorem rd10 (e : Fin 896) (j : Fin 2560) : iblk m c 10 t (ix2 e j) = m (c.tc.loc main_arg6) (ix2 e j) := by
  blk_ext! [iblk, V, idx10 t]

theorem rd11 (e : Fin 896) (j : Fin 2560) : iblk m c 11 t (ix2 e j) = m (c.tc.loc main_arg7) (ix2 e j) := by
  blk_ext! [iblk, V, idx11 t]

theorem rd12 (j : Fin 2560) : iblk m c 12 t (ix2 0 j) = m (c.tc.loc main_arg8) (ix1 j) := by
  refine (congrArg (V m c main_v3) (?_ : (win0_12.blk t).view.emb _ = ix2 0 j)).trans
    ((congrFun (v3_eq m c) _).trans (cast3 _ _))
  blk_ext [idx12 t, orow, nrow]

theorem rd13 (j : Fin 2560) : iblk m c 13 t (ix2 0 j) = m (c.tc.loc main_arg9) (ix1 j) := by
  refine (congrArg (V m c main_v4) (?_ : (win0_13.blk t).view.emb _ = ix2 0 j)).trans
    ((congrFun (v4_eq m c) _).trans (cast3 _ _))
  blk_ext [idx13 t, orow, nrow]

/-! ## The chunk of a point -/

/-- The problem's data on device `c`. -/
def argData : Data := Cert.Math.data (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7)) (m (c.tc.loc main_arg8)) (m (c.tc.loc main_arg9))

theorem orow_tok (u : Fin 8) (i : Fin 64) (h : i.val = 0) : orow u (prv i) = tok u i := by
  apply Fin.ext; simp only [orow, tok, prv]; omega

theorem nrow_tok (u : Fin 8) (i : Fin 64) (h : ¬ i.val = 0) (hl : alive u i = true) : nrow u (prv i) = tok u i := by
  have h1 : 64 * u.val + i.val < 449 := by simpa [alive] using hl
  apply Fin.ext; simp only [nrow, tok, prv]; omega

theorem same : Chunk.Same ((ins m c t).chunk (uOf t)) ((argData m c).chunk (bOf t) (uOf t)) where
  live := rfl
  em := by funext k e; exact rd0 m c t k e
  es := by funext k; exact rd1 m c t _ _
  wk := by funext e j; exact rd10 m c t e j
  wv := by funext e j; exact rd11 m c t e j
  ks := by funext j; exact rd12 m c t j
  vs := by funext j; exact rd13 m c t j
  x i hi := by
    funext j
    show (if i.val = 0 then _ else _) = m (c.tc.loc main_arg0) (ix4 (bOf t) (tok (uOf t) i) (Cert.Math.hd j) (rest j))
    split
    · next h => rw [← orow_tok _ _ h]; exact rd2 m c t _ _
    · next h => rw [← nrow_tok _ _ h hi]; exact rd3 m c t _ _
  s i hi := by
    funext j
    show (if i.val = 0 then _ else _) = m (c.tc.loc main_arg1) (ix3 (bOf t) (tok (uOf t) i) j)
    split
    · next h => rw [← orow_tok _ _ h]; exact rd6 m c t _ _
    · next h => rw [← nrow_tok _ _ h hi]; exact rd7 m c t _ _
  g i hi := by
    funext j
    show (if i.val = 0 then _ else _) = m (c.tc.loc main_arg2) (ix3 (bOf t) (tok (uOf t) i) j)
    split
    · next h => rw [← orow_tok _ _ h]; exact rd4 m c t _ _
    · next h => rw [← nrow_tok _ _ h hi]; exact rd5 m c t _ _
  d i hi := by
    show (if i.val = 0 then _ else _) = m (c.tc.loc main_arg3) (ix2 (bOf t) (tok (uOf t) i))
    split
    · next h => rw [← orow_tok _ _ h]; exact rd8 m c t _
    · next h => rw [← nrow_tok _ _ h hi]; exact rd9 m c t _

end Cert.KernelIdeal.Hand
-- ==== Proof.KIdeal.Out.lean ====
module

public import proofs.«01_k».proof.Proof.KIdeal.Reads

/-!
What the kernel's four results hold after its run: the gradients of the problem's data. A row of the queries' gradients
comes from the point of its own block when it is the block's last row, and from the point before otherwise; the
gradients of the weights are sums over all points.
-/

@[expose] public section

namespace Cert.KernelIdeal.Hand

open Idealize.ShloMosaic Idealize.ShloMosaic.TcCoe Idealize.ShloMosaic.Tactic
open Idealize.SL Idealize.SL.RA
open Cert.KernelIdeal Cert.KernelIdeal.Gen
open Idealize.ShloMosaic.Pipeline (Dat)
open Cert.Math (Chunk Data rest tok alive)

variable (m : (ℓ : Loc nD τ sig) → Buf (Elt Ideal) ℓ) (c : Dev nD) (t : Fin cfg0.N)

/-- A property of every index of a block of rows. -/
theorem all3 {P : S1x64x2560.Idx → Prop} (h : ∀ i j, P (ix3 0 i j)) (y : S1x64x2560.Idx) : P y := by
  idx_vars y
  obtain rfl : y0 = 0 := Subsingleton.elim _ _
  exact h _ _

/-- A property of every index of a block of neighbours. -/
theorem all4 {P : S1x1x256x896.Idx → Prop} (h : ∀ i j, P (ix4 0 0 i j)) (y : S1x1x256x896.Idx) : P y := by
  idx_vars y
  obtain rfl : y0 = 0 := Subsingleton.elim _ _
  obtain rfl : y1 = 0 := Subsingleton.elim _ _
  exact h _ _

/-- A property of every index of an array of weights. -/
theorem all2 {P : S896x2560.Idx → Prop} (h : ∀ i j, P (ix2 i j)) (y : S896x2560.Idx) : P y := by
  idx_vars y
  exact h _ _

/-! ## The gradients of the queries -/

/-- The last row of a block is the first slot of its chunk. -/
theorem dq_last (A : Data) (b : Fin 4) (u : Fin 8) (i : Fin 64) (j : Fin 2560) (h : i.val = 63) :
    A.dq b (orow u i) j = (A.chunk b u).dq (nxt i) j := by
  have hu : (⟨((orow u i).val + 449) % 512 / 64, by omega⟩ : Fin 8) = u := by apply Fin.ext; simp only [orow]; omega
  have hi : (⟨((orow u i).val + 449) % 64, by omega⟩ : Fin 64) = nxt i := by apply Fin.ext; simp only [orow, nxt]; omega
  unfold Data.dq
  rw [hu, hi]

/-- The other rows of the first block belong to no chunk. -/
theorem dq_first (A : Data) (b : Fin 4) (u : Fin 8) (i : Fin 64) (j : Fin 2560) (h : ¬ i.val = 63) (hu : u.val = 0) :
    A.dq b (orow u i) j = 0 := by
  unfold Data.dq
  refine Chunk.dq_dead _ ?_ _
  show alive _ _ = false
  have h0 : ¬ (64 * ((u.val * 64 + i.val + 449) % 512 / 64) + (u.val * 64 + i.val + 449) % 64 < 449) := by omega
  exact decide_eq_false h0

/-- The other rows of a later block are the later slots of the chunk before. -/
theorem dq_later (A : Data) (b : Fin 4) (u v : Fin 8) (i : Fin 64) (j : Fin 2560) (h : ¬ i.val = 63) (hv : u.val = v.val + 1) :
    A.dq b (orow u i) j = (A.chunk b v).dq (nxt i) j := by
  have hu : (⟨((orow u i).val + 449) % 512 / 64, by omega⟩ : Fin 8) = v := by apply Fin.ext; simp only [orow]; omega
  have hi : (⟨((orow u i).val + 449) % 64, by omega⟩ : Fin 64) = nxt i := by apply Fin.ext; simp only [orow, nxt]; omega
  unfold Data.dq
  rw [hu, hi]

theorem after_14_at (i : Fin 64) (j : Fin 2560) :
    (ins m c t).T16 (car m c t.val) (ix3 0 i j) = (argData m c).dq (bOf t) (orow (uOf t) i) j := by
  rw [Ins.T16_at (ins_u m c t)]
  by_cases h : i.val = 63
  · rw [if_pos h, dq_last _ _ _ _ _ h, (same m c t).dq]
  · rw [if_neg h]
    by_cases hu : (uOf t).val = 0
    · rw [if_pos hu, dq_first _ _ _ _ _ h hu]
    · rw [if_neg hu]
      have ht : t.val < 32 := t.isLt
      have hm : (uOf t).val = t.val % 8 := rfl
      obtain ⟨n, hn⟩ : ∃ n, t.val = n + 1 := ⟨t.val - 1, by omega⟩
      have hN : n < cfg0.N := by show n < 32; omega
      have hb : bOf ⟨n, hN⟩ = bOf t := by apply Fin.ext; simp only [bOf]; omega
      have hv : (uOf t).val = (uOf ⟨n, hN⟩).val + 1 := by simp only [uOf]; omega
      rw [hn, show n + 1 = (⟨n, hN⟩ : Fin cfg0.N).val + 1 from rfl, car_succ, Ins.T31_at (ins_u m c ⟨n, hN⟩), (same m c ⟨n, hN⟩).dq,
        dq_later _ _ _ _ _ _ h hv, hb]

theorem out14 : (dats m 0 c).arrAt 14 cfg0.N = fun y : S4x512x2560.Idx => (argData m c).dq (y 0) (y 1) (y 2) := by
  refine (dats m 0 c).arrAt_eq_of_covers 14 _ (by decide +kernel) fun t hf y => ?_
  blk_simp
  rw [after_14]
  revert y
  refine all3 fun i j => ?_
  have e : (win0_14.blk t).view.emb (ix3 0 i j) = ix3 (bOf t) (orow (uOf t) i) j := by blk_ext [idx14 t, orow]
  rw [e]
  exact after_14_at m c t i j

/-! ## The gradients of the neighbours -/

theorem out15 : (dats m 0 c).arrAt 15 cfg0.N = fun y : S4x8x256x896.Idx => (argData m c).demb (y 0) (y 1) (y 2) (y 3) := by
  refine (dats m 0 c).arrAt_eq_of_covers 15 _ (by decide +kernel) fun t hf y => ?_
  blk_simp
  rw [after_15]
  revert y
  refine all4 fun k e => ?_
  have h : (win0_15.blk t).view.emb (ix4 0 0 k e) = ix4 (bOf t) (uOf t) k e := by blk_ext [idx15 t]
  rw [h]
  exact (Ins.T17_at (ins_u m c t) k e).trans (congrFun (congrFun (same m c t).demb k) e)

/-! ## The gradients of the weights -/

/-- Point `n`'s part of a sum over the points. -/
def part (f : Fin 4 → Fin 8 → EReal) (n : ℕ) : EReal := f ⟨n / 8 % 4, by omega⟩ ⟨n % 8, by omega⟩

theorem sum_part (f : Fin 4 → Fin 8 → EReal) : ∑ n ∈ Finset.range 32, part f n = ∑ b, ∑ u, f b u := by
  rw [Finset.sum_range, ← Fin.sum_divmod_fin (N := 32) 8 f]
  refine Finset.sum_congr rfl fun n _ => ?_
  unfold part
  congr 1
  apply Fin.ext; show n.val / 8 % 4 = n.val / 8; omega

theorem part_val (f : Fin 4 → Fin 8 → EReal) : part f t.val = f (bOf t) (uOf t) := by
  have ht : t.val < 32 := t.isLt
  unfold part
  congr 1
  apply Fin.ext; show t.val / 8 % 4 = t.val / 8; omega

theorem acc18_at (e : Fin 896) (j : Fin 2560) : ∀ n ≤ 32, acc18 m c n (ix2 e j) =
    ∑ k ∈ Finset.range n, part (fun b u => ((argData m c).chunk b u).dw ((argData m c).chunk b u).dk e j) k := by
  intro n
  induction n with
  | zero => intro _; rw [Finset.sum_range_zero]; exact pZero_at _
  | succ n ih =>
    intro hn
    have hN : n < cfg0.N := by show n < 32; omega
    rw [show n + 1 = (⟨n, hN⟩ : Fin cfg0.N).val + 1 from rfl, acc18_succ, Ins.T18_at (ins_u m c ⟨n, hN⟩), Finset.sum_range_succ,
      part_val, (same m c ⟨n, hN⟩).dw, (same m c ⟨n, hN⟩).dk]
    exact congrArg (· + _) (ih (by omega))

theorem acc19_at (e : Fin 896) (j : Fin 2560) : ∀ n ≤ 32, acc19 m c n (ix2 e j) =
    ∑ k ∈ Finset.range n, part (fun b u => ((argData m c).chunk b u).dw ((argData m c).chunk b u).dv e j) k := by
  intro n
  induction n with
  | zero => intro _; rw [Finset.sum_range_zero]; exact pZero_at _
  | succ n ih =>
    intro hn
    have hN : n < cfg0.N := by show n < 32; omega
    rw [show n + 1 = (⟨n, hN⟩ : Fin cfg0.N).val + 1 from rfl, acc19_succ, Ins.T19_at (ins_u m c ⟨n, hN⟩), Finset.sum_range_succ,
      part_val, (same m c ⟨n, hN⟩).dw, (same m c ⟨n, hN⟩).dv]
    exact congrArg (· + _) (ih (by omega))

/-- The last point. -/
def tl : Fin cfg0.N := ⟨31, by decide⟩

theorem out16 : (dats m 0 c).arrAt 16 cfg0.N = fun y : S896x2560.Idx => (argData m c).dwk (y 0) (y 1) := by
  refine Dat.arrAt_eq_of_after_last (dats m 0 c) 16 tl (by decide +kernel) _ fun y => ?_
  rw [after_16]
  revert y
  refine all2 fun e j => ?_
  exact (acc18_at m c e j 32 le_rfl).trans (sum_part _)

theorem out17 : (dats m 0 c).arrAt 17 cfg0.N = fun y : S896x2560.Idx => (argData m c).dwv (y 0) (y 1) := by
  refine Dat.arrAt_eq_of_after_last (dats m 0 c) 17 tl (by decide +kernel) _ fun y => ?_
  rw [after_17]
  revert y
  refine all2 fun e j => ?_
  exact (acc19_at m c e j 32 le_rfl).trans (sum_part _)

/-! ## The results -/

theorem tail6 (W : Valuation τ sig (Elt Ideal)) : StableHlo.after [hostOps1 (F := Ideal)].flatten W (Proc.devRef .tc main_v6) =
    shapeCast S4x512x16x160 (W (Proc.devRef .tc main_v5_0) : S4x512x2560.Idx → EReal) shapeCasts_S4x512x2560_S4x512x16x160 := by
  rfl

theorem tail7 (W : Valuation τ sig (Elt Ideal)) : StableHlo.after [hostOps1 (F := Ideal)].flatten W (Proc.devRef .tc main_v7) =
    shapeCast S4x8x2x128x896 (W (Proc.devRef .tc main_v5_1) : S4x8x256x896.Idx → EReal) shapeCasts_S4x8x256x896_S4x8x2x128x896 := by
  rfl

theorem cast6 (X : S4x512x2560.Idx → EReal) : shapeCast S4x512x16x160 X shapeCasts_S4x512x2560_S4x512x16x160 =
    fun y => X (ix3 (y 0) (y 1) (Cert.Math.col (y 2) (y 3))) := by
  funext y
  idx_vars y
  pointwise []
  exact congrArg X (congrArg (ix3 y0 y1) (Fin.ext (by simp only [Cert.Math.col]; omega)))

theorem cast7 (X : S4x8x256x896.Idx → EReal) : shapeCast S4x8x2x128x896 X shapeCasts_S4x8x256x896_S4x8x2x128x896 =
    fun y => X (ix4 (y 0) (y 1) ⟨(y 2).val * 128 + (y 3).val, by have h2 : (y 2).val < 2 := (y 2).isLt; have h3 : (y 3).val < 128 := (y 3).isLt; omega⟩ (y 4)) := by
  funext y
  idx_vars y
  pointwise []

theorem res6 : Pipeline.afterTail₀ cfgs (dats m) 0 (V0 m) [hostOps1] c main_v6 =
    fun y : S4x512x16x160.Idx => (argData m c).dq (y 0) (y 1) (Cert.Math.col (y 2) (y 3)) := by
  refine (tail6 _).trans ((congrArg (fun X => shapeCast S4x512x16x160 X shapeCasts_S4x512x2560_S4x512x16x160) ?_).trans (cast6 fun y => (argData m c).dq (y 0) (y 1) (y 2)))
  exact ((dats m 0 c).withArrays_arrAt sharedIn0 (V0 m c) (A_eq m c) 14).trans (out14 m c)

theorem res7 : Pipeline.afterTail₀ cfgs (dats m) 0 (V0 m) [hostOps1] c main_v7 =
    fun y : S4x8x2x128x896.Idx => (argData m c).demb (y 0) (y 1) ⟨(y 2).val * 128 + (y 3).val, by have h2 : (y 2).val < 2 := (y 2).isLt; have h3 : (y 3).val < 128 := (y 3).isLt; omega⟩ (y 4) := by
  refine (tail7 _).trans ((congrArg (fun X => shapeCast S4x8x2x128x896 X shapeCasts_S4x8x256x896_S4x8x2x128x896) ?_).trans (cast7 fun y => (argData m c).demb (y 0) (y 1) (y 2) (y 3)))
  exact ((dats m 0 c).withArrays_arrAt sharedIn0 (V0 m c) (A_eq m c) 15).trans (out15 m c)

end Cert.KernelIdeal.Hand
-- ==== Proof.KIdeal.Results.lean ====
module

public import proofs.«01_k».proof.Proof.KIdeal.Out

/-!
The kernel's run: its four results hold the gradients of the problem's data.
-/

@[expose] public section

namespace Cert.KernelIdeal.Hand

open Idealize.ShloMosaic Idealize.ShloMosaic.TcCoe
open Idealize.SL.Sem
open Cert.KernelIdeal Cert.KernelIdeal.Gen
open Cert.Math (Data)

variable (m : (ℓ : Loc nD τ sig) → Buf (Elt Ideal) ℓ)

theorem run (ρ : Dev nD → PrngReg) :
    θ_run (defs (F := Ideal)) (onTc (τ := τ) (main (F := Ideal))) ⟨m, fun _ => 0, ρ⟩ fun r => ∀ c : Dev nD,
      (r.2.mem ((c.tc : Thread nD τ).loc main_v6) = fun y : S4x512x16x160.Idx => (argData m c).dq (y 0) (y 1) (Cert.Math.col (y 2) (y 3)))
      ∧ (r.2.mem ((c.tc : Thread nD τ).loc main_v7) = fun y : S4x8x2x128x896.Idx =>
          (argData m c).demb (y 0) (y 1) ⟨(y 2).val * 128 + (y 3).val, by have h2 : (y 2).val < 2 := (y 2).isLt; have h3 : (y 3).val < 128 := (y 3).isLt; omega⟩ (y 4))
      ∧ (r.2.mem ((c.tc : Thread nD τ).loc main_v5_2) = fun y : S896x2560.Idx => (argData m c).dwk (y 0) (y 1))
      ∧ (r.2.mem ((c.tc : Thread nD τ).loc main_v5_3) = fun y : S896x2560.Idx => (argData m c).dwv (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run (defs (F := Ideal)) _ _).mono (fun r h c => ?_) (θ_run_and (run_main m ρ) (frame m ρ))
  obtain ⟨hF, hA, -⟩ := h
  exact ⟨((hF c).2 main_v6 (Pipeline.mem_restRefs_of main_v6 (by decide) (by decide))).trans (res6 m c),
    ((hF c).2 main_v7 (Pipeline.mem_restRefs_of main_v7 (by decide) (by decide))).trans (res7 m c),
    ((hF c).1 16).trans (out16 m c), ((hF c).1 17).trans (out17 m c), hA c⟩

end Cert.KernelIdeal.Hand
-- ==== Proof.RIdeal.Inputs.lean ====
module

public import proofs.«01_k».proof.Proof.Math
public import proofs.«01_k».proof.Proof.Gen.ReferenceIdeal.Read
public import Idealize.ShloMosaic.Lib.Pointwise

/-!
The reference's inputs at their coordinates: the tokens of a chunk, gathered by shifting the sequence by 63 places, the
keys and the values.
-/

@[expose] public section

namespace Cert.ReferenceIdeal.Hand

open Idealize.ShloMosaic
open Cert.ReferenceIdeal Cert.ReferenceIdeal.Gen Cert.ReferenceIdeal.Read
open Cert.Math (Chunk Data c0 low hd rest col tok alive)

/-- What the reference's results are computed from: the arguments, the codes among them decoded. -/
structure Args where
  x1 : S4x512x16.Idx → EReal
  x3 : S4x512.Idx → EReal
  x5 : S4x8x2x128.Idx → EReal
  x8 : S2560.Idx → EReal
  x9 : S2560.Idx → EReal
  r0 : S4x512x16x160.Idx → EReal
  r1 : S4x512x2560.Idx → EReal
  r2 : S4x8x2x128x896.Idx → EReal
  r3 : S896x2560.Idx → EReal
  r4 : S896x2560.Idx → EReal

variable (R : Args)

/-- The problem's data in them. -/
def Args.data : Data := Cert.Math.data R.r0 R.x1 R.r1 R.x3 R.r2 R.x5 R.r3 R.r4 R.x8 R.x9

/-- Chunk `u` of sequence `b`. -/
def Args.ch (b : Fin 4) (u : Fin 8) : Chunk := R.data.chunk b u

variable (b : Fin 4) (u : Fin 8)

theorem v1_at (m : Fin 256) (e : Fin 896) : val_main_v1 (F := Ideal) R.r2 (ix4 b u m e) = (R.ch b u).em m e := by
  pointwise [val_main_v1]
  rfl

theorem v2_at (m : Fin 256) : val_main_v2 (F := Ideal) R.x5 (ix3 b u m) = (R.ch b u).es m := by
  pointwise [val_main_v2]
  rfl

/-- Row `64·u + i` of the shifted sequence is token `tok u i`: the row 63 places on, or around the end. -/
theorem roll_at (f : Fin 512 → EReal) (i : Fin 64) :
    (if _ : u.val * 64 + i.val < 449 then f ⟨63 + (u.val * 64 + i.val), by omega⟩ else f ⟨u.val * 64 + i.val - 449, by omega⟩) = f (tok u i) := by
  split
  · exact congrArg f (Fin.ext (by change 63 + (u.val * 64 + i.val) = (64 * u.val + i.val + 63) % 512; omega))
  · exact congrArg f (Fin.ext (by change u.val * 64 + i.val - 449 = (64 * u.val + i.val + 63) % 512; omega))

/-- A column as a reshape counts it. -/
theorem col_eq (h : Fin 16) (r : Fin 160) : (⟨h.val * 160 + r.val, by omega⟩ : Fin 2560) = col h r :=
  Fin.ext (by unfold col; dsimp only; omega)

theorem x_at (i : Fin 64) (h : Fin 16) (r : Fin 160) : (R.ch b u).x i (col h r) = R.r0 (ix4 b (tok u i) h r) := by
  change R.r0 (ix4 b (tok u i) (hd (col h r)) (rest (col h r))) = _
  rw [Cert.Math.hd_col, Cert.Math.rest_col]

theorem v32_at (i : Fin 64) (h : Fin 16) (r : Fin 160) : val_main_v32 (F := Ideal) R.r0 (ix5 b u i h r) = (R.ch b u).x i (col h r) := by
  rw [x_at]
  pointwise [val_main_v32, val_main_v31, val_main_v30, val_main_v29]
  exact roll_at u (fun t => R.r0 (ix4 b t h r)) i

theorem v36_at (i : Fin 64) (h : Fin 16) : val_main_v36 (F := Ideal) R.x1 (ix4 b u i h) = (R.ch b u).s i h := by
  pointwise [val_main_v36, val_main_v35, val_main_v34, val_main_v33]
  exact roll_at u (fun t => R.x1 (ix3 b t h)) i

theorem v40_at (i : Fin 64) (h : Fin 16) (r : Fin 160) : val_main_v40 (F := Ideal) R.r1 (ix5 b u i h r) = (R.ch b u).g i (col h r) := by
  pointwise [val_main_v40, val_main_v39, val_main_v38, val_main_v37]
  simp only [col_eq]
  exact roll_at u (fun t => R.r1 (ix3 b t (col h r))) i

theorem v44_at (i : Fin 64) : val_main_v44 (F := Ideal) R.x3 (ix3 b u i) = (R.ch b u).d i := by
  pointwise [val_main_v44, val_main_v43, val_main_v42, val_main_v41]
  exact roll_at u (fun t => R.x3 (ix2 b t)) i

theorem v18_at (m : Fin 256) (j : Fin 2560) : val_main_v18 (F := Ideal) R.x5 R.x8 R.r2 R.r3 (ix4 b u m j) = (R.ch b u).K j m := by
  pointwise [val_main_v18, val_main_v17, val_main_v16, val_main_v15, val_main_v14, val_main_v13, val_main_v12, val_main_v11]
  change _ = (∑ e, R.r3 (ix2 e j) * (R.ch b u).em m e) * (R.ch b u).es m * R.x8 (ix1 j)
  simp only [v1_at, v2_at, mul_comm (R.r3 _)]

theorem v19_at (m : Fin 256) (h : Fin 16) (r : Fin 160) :
    val_main_v19 (F := Ideal) R.x5 R.x8 R.r2 R.r3 (ix5 b u m h r) = (R.ch b u).K (col h r) m := by
  pointwise [val_main_v19]
  simp only [col_eq]
  exact v18_at R b u m (col h r)

theorem v27_at (m : Fin 256) (j : Fin 2560) : val_main_v27 (F := Ideal) R.x5 R.x9 R.r2 R.r4 (ix4 b u m j) = (R.ch b u).V j m := by
  pointwise [val_main_v27, val_main_v26, val_main_v25, val_main_v24, val_main_v23, val_main_v22, val_main_v21, val_main_v20]
  change _ = (∑ e, R.r4 (ix2 e j) * (R.ch b u).em m e) * (R.ch b u).es m * R.x9 (ix1 j)
  simp only [v1_at, v2_at, mul_comm (R.r4 _)]

theorem v28_at (m : Fin 256) (h : Fin 16) (r : Fin 160) :
    val_main_v28 (F := Ideal) R.x5 R.x9 R.r2 R.r4 (ix5 b u m h r) = (R.ch b u).V (col h r) m := by
  pointwise [val_main_v28]
  simp only [col_eq]
  exact v27_at R b u m (col h r)

theorem v6_at (e : Fin 896) (j : Fin 2560) : val_main_v6 (F := Ideal) R.x8 R.r3 (ix2 e j) = R.r3 (ix2 e j) * R.x8 (ix1 j) := by
  pointwise [val_main_v6, val_main_v5, val_main_v4, val_main_v3]

theorem v10_at (e : Fin 896) (j : Fin 2560) : val_main_v10 (F := Ideal) R.x9 R.r4 (ix2 e j) = R.r4 (ix2 e j) * R.x9 (ix1 j) := by
  pointwise [val_main_v10, val_main_v9, val_main_v8, val_main_v7]

end Cert.ReferenceIdeal.Hand
-- ==== Proof.RIdeal.Soft.lean ====
module

public import proofs.«01_k».proof.Proof.RIdeal.Inputs

/-!
The reference's scores, softmax and the gradient through the softmax, at their coordinates.
-/

@[expose] public section

namespace Cert.ReferenceIdeal.Hand

open Idealize.ShloMosaic
open Cert.ReferenceIdeal Cert.ReferenceIdeal.Gen Cert.ReferenceIdeal.Read
open Cert.Math (Chunk Data c0 low hd rest col tok alive)

variable (R : Args) (b : Fin 4) (u : Fin 8)

theorem v45_at (h : Fin 16) (i : Fin 64) (m : Fin 256) :
    val_main_v45 (F := Ideal) R.x5 R.x8 R.r0 R.r2 R.r3 (ix5 b u h i m) = ∑ r, (R.ch b u).x i (col h r) * (R.ch b u).K (col h r) m := by
  pointwise [val_main_v45]
  simp only [v32_at, v19_at]

theorem v50_at (h : Fin 16) (i : Fin 64) (m : Fin 256) :
    val_main_v50 (F := Ideal) R.x1 (ix5 b u h i m) = c0 * (R.ch b u).s i h := by
  have e : val_main_v50 (F := Ideal) R.x1 (ix5 b u h i m) = val_main_v47 (F := Ideal) (ix4 b u h i) * val_main_v46 (F := Ideal) R.x1 (ix4 b u h i) := by
    pointwise [val_main_v50, val_main_v49, val_main_v48]
  have e1 : val_main_v47 (F := Ideal) (ix4 b u h i) = c0 := by
    rw [val_main_v47_apply, val_main_cst_apply]; rfl
  have e2 : val_main_v46 (F := Ideal) R.x1 (ix4 b u h i) = (R.ch b u).s i h := by
    pointwise [val_main_v46]
    exact v36_at R b u i h
  rw [e, e1, e2]

theorem v51_at (h : Fin 16) (i : Fin 64) (m : Fin 256) :
    val_main_v51 (F := Ideal) R.x1 R.x5 R.x8 R.r0 R.r2 R.r3 (ix5 b u h i m) = (R.ch b u).sc h i m := by
  rw [val_main_v51_apply, v45_at, v50_at]
  rfl

theorem v52_at (h : Fin 16) (i : Fin 64) :
    val_main_v52 (F := Ideal) R.x1 R.x5 R.x8 R.r0 R.r2 R.r3 (ix4 b u h i) = Finset.fold max low (fun m => (R.ch b u).sc h i m) Finset.univ := by
  pointwise [val_main_v52]
  simp only [v51_at, val_main_cst_0_apply]
  rfl

theorem v54_at (h : Fin 16) (i : Fin 64) (m : Fin 256) :
    val_main_v54 (F := Ideal) R.x1 R.x5 R.x8 R.r0 R.r2 R.r3 (ix5 b u h i m) = Finset.fold max low (fun m => (R.ch b u).sc h i m) Finset.univ := by
  pointwise [val_main_v54, val_main_v53]
  exact v52_at R b u h i

theorem v56_at (h : Fin 16) (i : Fin 64) (m : Fin 256) :
    val_main_v56 (F := Ideal) R.x1 R.x5 R.x8 R.r0 R.r2 R.r3 (ix5 b u h i m) = (R.ch b u).ex h i m := by
  rw [val_main_v56_apply, val_main_v55_apply, v51_at, v54_at]
  rfl

/-- The reference starts its sums from this word's zero. -/
theorem zero_word : (FloatOps.ofBits .f32 0x00000000#32 : Ideal .f32) = (0 : EReal) := Ideal.ofBits_zero .f32

theorem v59_at (h : Fin 16) (i : Fin 64) (m : Fin 256) :
    val_main_v59 (F := Ideal) R.x1 R.x5 R.x8 R.r0 R.r2 R.r3 (ix5 b u h i m) = ∑ m, (R.ch b u).ex h i m := by
  pointwise [val_main_v59, val_main_v58, val_main_v57]
  simp only [v56_at, val_main_cst_1_apply, zero_word, zero_add]

theorem v60_at (h : Fin 16) (i : Fin 64) (m : Fin 256) :
    val_main_v60 (F := Ideal) R.x1 R.x5 R.x8 R.r0 R.r2 R.r3 (ix5 b u h i m) = (R.ch b u).p h i m := by
  rw [val_main_v60_apply, v56_at, v59_at]
  rfl

theorem v61_at (h : Fin 16) (i : Fin 64) (m : Fin 256) :
    val_main_v61 (F := Ideal) R.x5 R.x9 R.r1 R.r2 R.r4 (ix5 b u h i m) = ∑ r, (R.ch b u).g i (col h r) * (R.ch b u).V (col h r) m := by
  pointwise [val_main_v61]
  simp only [v40_at, v28_at]

theorem v63_at (h : Fin 16) (i : Fin 64) (m : Fin 256) : val_main_v63 (F := Ideal) R.x3 (ix5 b u h i m) = (R.ch b u).d i := by
  pointwise [val_main_v63, val_main_v62]
  exact v44_at R b u i

theorem v64_at (h : Fin 16) (i : Fin 64) (m : Fin 256) :
    val_main_v64 (F := Ideal) R.x3 R.x5 R.x9 R.r1 R.r2 R.r4 (ix5 b u h i m) = (R.ch b u).dp h i m := by
  rw [val_main_v64_apply, v61_at, v63_at]
  rfl

theorem v65_at (h : Fin 16) (i : Fin 64) (m : Fin 256) :
    val_main_v65 (F := Ideal) R.x1 R.x3 R.x5 R.x8 R.x9 R.r0 R.r1 R.r2 R.r3 R.r4 (ix5 b u h i m) = (R.ch b u).p h i m * (R.ch b u).dp h i m := by
  rw [val_main_v65_apply, v60_at, v64_at]
  rfl

theorem v74_at (h : Fin 16) (i : Fin 64) (m : Fin 256) :
    val_main_v74 (F := Ideal) R.x1 R.x3 R.x5 R.x8 R.x9 R.r0 R.r1 R.r2 R.r3 R.r4 (ix5 b u h i m)
      = ∑ m, (R.ch b u).p h i m * (R.ch b u).dp h i m := by
  pointwise [val_main_v74, val_main_v67, val_main_v66]
  simp only [v65_at, val_main_cst_2_apply, zero_word, zero_add]

theorem v76_at (h : Fin 16) (i : Fin 64) (m : Fin 256) :
    val_main_v76 (F := Ideal) R.x1 R.x3 R.x5 R.x8 R.x9 R.r0 R.r1 R.r2 R.r3 R.r4 (ix5 b u h i m)
      = (R.ch b u).p h i m * ((R.ch b u).dp h i m - ∑ m, (R.ch b u).p h i m * (R.ch b u).dp h i m) := by
  rw [val_main_v76_apply, val_main_v75_apply, v60_at, v64_at, v74_at]
  rfl

/-- Selecting by a word's comparison with 449 is choosing by the number's. -/
theorem select_slt (n : Nat) (hn : n < 512) (x y : EReal) :
    Scalar.select (IntOp.cmpi .slt (BitVec.ofNat 32 n) 449#32) x y = if n < 449 then x else y := by
  have e : IntOp.cmpi .slt (BitVec.ofNat 32 n) 449#32 = BitVec.ofBool (decide (n < 449)) := by
    unfold IntOp.cmpi
    dsimp only
    congr 1
    have h1 : (BitVec.ofNat 32 n).toInt = n := by
      rw [BitVec.toInt_eq_toNat_of_lt] <;> rw [BitVec.toNat_ofNat] <;> omega
    rw [BitVec.slt, h1]
    simp
  rw [e]
  unfold Scalar.select
  by_cases h : n < 449
  · rw [if_pos h, decide_eq_true h]; rfl
  · rw [if_neg h, decide_eq_false h]; rfl

theorem v72_at (h : Fin 16) (i : Fin 64) (m : Fin 256) (x y : EReal) :
    Scalar.select (val_main_v72 (F := Ideal) (ix5 b u h i m)) x y = if alive u i then x else y := by
  pointwise [val_main_v72, val_main_v71, val_main_v70, val_main_v69, val_main_v68]
  refine (select_slt (u.val * 64 + i.val) (by omega) x y).trans ?_
  unfold alive
  rw [mul_comm]
  simp only [decide_eq_true_eq]

theorem zero3_at : val_main_cst_3 (F := Ideal) ix0 = (0 : EReal) := by
  rw [val_main_cst_3_apply, zero_word]

theorem v78_at (h : Fin 16) (i : Fin 64) (m : Fin 256) :
    val_main_v78 (F := Ideal) R.x1 R.x3 R.x5 R.x8 R.x9 R.r0 R.r1 R.r2 R.r3 R.r4 (ix5 b u h i m) = (R.ch b u).ds h i m := by
  pointwise [val_main_v78, val_main_v77, val_main_v73]
  rw [v76_at, zero3_at]
  exact v72_at b u h i m _ _

theorem v80_at (h : Fin 16) (i : Fin 64) (m : Fin 256) :
    val_main_v80 (F := Ideal) R.x1 R.x5 R.x8 R.r0 R.r2 R.r3 (ix5 b u h i m) = (R.ch b u).pb h i m := by
  pointwise [val_main_v80, val_main_v79, val_main_v73]
  rw [v60_at, zero3_at]
  exact v72_at b u h i m _ _

end Cert.ReferenceIdeal.Hand
-- ==== Proof.RIdeal.Grads.lean ====
module

public import proofs.«01_k».proof.Proof.RIdeal.Soft

/-!
The reference's gradients of one chunk, at their coordinates.
-/

@[expose] public section

namespace Cert.ReferenceIdeal.Hand

open Idealize.ShloMosaic
open Cert.ReferenceIdeal Cert.ReferenceIdeal.Gen Cert.ReferenceIdeal.Read
open Cert.Math (Chunk Data c0 low hd rest col tok alive)

variable (R : Args) (b : Fin 4) (u : Fin 8)

theorem v83_at (i : Fin 64) (h : Fin 16) (r : Fin 160) : val_main_v83 (F := Ideal) R.x1 (ix5 b u i h r) = (R.ch b u).s i h := by
  pointwise [val_main_v83, val_main_v82, val_main_v81]
  exact v36_at R b u i h

theorem v84_at (i : Fin 64) (h : Fin 16) (r : Fin 160) :
    val_main_v84 (F := Ideal) R.x1 R.r0 (ix5 b u i h r) = (R.ch b u).x i (col h r) * (R.ch b u).s i h := by
  rw [val_main_v84_apply, v32_at, v83_at]
  rfl

theorem v87_at (i : Fin 64) (h : Fin 16) (r : Fin 160) : val_main_v87 (F := Ideal) R.x3 (ix5 b u i h r) = (R.ch b u).d i := by
  pointwise [val_main_v87, val_main_v86, val_main_v85]
  exact v44_at R b u i

theorem v88_at (i : Fin 64) (h : Fin 16) (r : Fin 160) :
    val_main_v88 (F := Ideal) R.x3 R.r1 (ix5 b u i h r) = (R.ch b u).g i (col h r) * (R.ch b u).d i := by
  rw [val_main_v88_apply, v40_at, v87_at]
  rfl

theorem v89_at (i : Fin 64) (h : Fin 16) (r : Fin 160) :
    val_main_v89 (F := Ideal) R.x1 R.x3 R.x5 R.x8 R.x9 R.r0 R.r1 R.r2 R.r3 R.r4 (ix5 b u h r i)
      = ∑ m, (R.ch b u).ds h i m * (R.ch b u).K (col h r) m := by
  pointwise [val_main_v89]
  exact Finset.sum_congr rfl fun m _ => by rw [v19_at, v78_at, mul_comm]

theorem v90_at (i : Fin 64) (h : Fin 16) (r : Fin 160) :
    val_main_v90 (F := Ideal) R.x1 R.x3 R.x5 R.x8 R.x9 R.r0 R.r1 R.r2 R.r3 R.r4 (ix5 b u i h r)
      = ∑ m, (R.ch b u).ds h i m * (R.ch b u).K (col h r) m := by
  pointwise [val_main_v90]
  exact v89_at R b u i h r

theorem v91_at (i : Fin 64) (h : Fin 16) (r : Fin 160) : val_main_v91 (F := Ideal) (ix5 b u i h r) = c0 := by
  rw [val_main_v91_apply, val_main_cst_4_apply]; rfl

theorem v93_at (i : Fin 64) (h : Fin 16) (r : Fin 160) :
    val_main_v93 (F := Ideal) R.x1 R.x3 R.x5 R.x8 R.x9 R.r0 R.r1 R.r2 R.r3 R.r4 (ix5 b u i h r) = (R.ch b u).dq i (col h r) := by
  rw [val_main_v93_apply, val_main_v92_apply, v90_at, v91_at]
  change c0 * _ = c0 * ∑ m, (R.ch b u).ds (hd (col h r)) i m * (R.ch b u).K (col h r) m
  rw [Cert.Math.hd_col]

theorem v94_at (t : Fin 512) (h : Fin 16) (r : Fin 160) :
    val_main_v94 (F := Ideal) R.x1 R.x3 R.x5 R.x8 R.x9 R.r0 R.r1 R.r2 R.r3 R.r4 (ix4 b t h r)
      = (R.ch b ⟨t.val / 64, by omega⟩).dq ⟨t.val % 64, by omega⟩ (col h r) := by
  pointwise [val_main_v94]
  exact v93_at R b _ _ h r

theorem v97_at (t : Fin 512) (h : Fin 16) (r : Fin 160) :
    val_main_v97 (F := Ideal) R.x1 R.x3 R.x5 R.x8 R.x9 R.r0 R.r1 R.r2 R.r3 R.r4 (ix4 b t h r) = R.data.dq b t (col h r) := by
  pointwise [val_main_v97, val_main_v96, val_main_v95]
  have key : ∀ x : Fin 512, x.val = (t.val + 449) % 512 →
      val_main_v94 (F := Ideal) R.x1 R.x3 R.x5 R.x8 R.x9 R.r0 R.r1 R.r2 R.r3 R.r4 (ix4 b x h r) = R.data.dq b t (col h r) := by
    intro x hx
    rw [v94_at]
    change _ = (R.ch b _).dq _ _
    have e1 : (⟨x.val / 64, by omega⟩ : Fin 8) = ⟨(t.val + 449) % 512 / 64, by omega⟩ := Fin.ext (by dsimp only; rw [hx])
    have e2 : (⟨x.val % 64, by omega⟩ : Fin 64) = ⟨(t.val + 449) % 64, by omega⟩ := Fin.ext (by dsimp only; omega)
    rw [e1, e2]
  split
  · exact key _ (by dsimp only; omega)
  · exact key _ (by dsimp only; omega)

theorem v98_at (h : Fin 16) (r : Fin 160) (m : Fin 256) :
    val_main_v98 (F := Ideal) R.x1 R.x3 R.x5 R.x8 R.x9 R.r0 R.r1 R.r2 R.r3 R.r4 (ix5 b u h r m)
      = ∑ i, (R.ch b u).x i (col h r) * (R.ch b u).s i h * (R.ch b u).ds h i m := by
  pointwise [val_main_v98]
  exact Finset.sum_congr rfl fun i _ => by rw [v84_at, v78_at]

theorem v99_at (h : Fin 16) (r : Fin 160) (m : Fin 256) :
    val_main_v99 (F := Ideal) R.x1 R.x3 R.x5 R.x8 R.x9 R.r0 R.r1 R.r2 R.r3 R.r4 (ix5 b u m h r)
      = ∑ i, (R.ch b u).x i (col h r) * (R.ch b u).s i h * (R.ch b u).ds h i m := by
  pointwise [val_main_v99]
  exact v98_at R b u h r m

theorem v100_at (h : Fin 16) (r : Fin 160) (m : Fin 256) : val_main_v100 (F := Ideal) (ix5 b u m h r) = c0 := by
  rw [val_main_v100_apply, val_main_cst_5_apply]; rfl

theorem v102_at (h : Fin 16) (r : Fin 160) (m : Fin 256) :
    val_main_v102 (F := Ideal) R.x1 R.x3 R.x5 R.x8 R.x9 R.r0 R.r1 R.r2 R.r3 R.r4 (ix5 b u m h r) = (R.ch b u).dk (col h r) m := by
  rw [val_main_v102_apply, val_main_v101_apply, v99_at, v100_at]
  change c0 * _ = c0 * ∑ i, (R.ch b u).x i (col h r) * (R.ch b u).s i (hd (col h r)) * (R.ch b u).ds (hd (col h r)) i m
  rw [Cert.Math.hd_col]

theorem v106_at (m : Fin 256) (j : Fin 2560) :
    val_main_v106 (F := Ideal) R.x1 R.x3 R.x5 R.x8 R.x9 R.r0 R.r1 R.r2 R.r3 R.r4 (ix4 b u m j) = (R.ch b u).dk j m := by
  pointwise [val_main_v106]
  refine (v102_at R b u (hd j) (rest j) m).trans ?_
  rw [Cert.Math.col_hd_rest]

theorem v103_at (h : Fin 16) (r : Fin 160) (m : Fin 256) :
    val_main_v103 (F := Ideal) R.x1 R.x3 R.x5 R.x8 R.r0 R.r1 R.r2 R.r3 (ix5 b u h r m)
      = ∑ i, (R.ch b u).g i (col h r) * (R.ch b u).d i * (R.ch b u).pb h i m := by
  pointwise [val_main_v103]
  exact Finset.sum_congr rfl fun i _ => by rw [v88_at, v80_at]

theorem v104_at (h : Fin 16) (r : Fin 160) (m : Fin 256) :
    val_main_v104 (F := Ideal) R.x1 R.x3 R.x5 R.x8 R.r0 R.r1 R.r2 R.r3 (ix5 b u m h r)
      = ∑ i, (R.ch b u).g i (col h r) * (R.ch b u).d i * (R.ch b u).pb h i m := by
  pointwise [val_main_v104]
  exact v103_at R b u h r m

theorem v105_at (h : Fin 16) (r : Fin 160) (m : Fin 256) :
    val_main_v105 (F := Ideal) R.x1 R.x3 R.x5 R.x8 R.r0 R.r1 R.r2 R.r3 (ix5 b u m h r) = (R.ch b u).dv (col h r) m := by
  rw [val_main_v105_apply, v104_at]
  change _ = ∑ i, (R.ch b u).g i (col h r) * (R.ch b u).d i * (R.ch b u).pb (hd (col h r)) i m
  rw [Cert.Math.hd_col]
  rfl

theorem v107_at (m : Fin 256) (j : Fin 2560) :
    val_main_v107 (F := Ideal) R.x1 R.x3 R.x5 R.x8 R.r0 R.r1 R.r2 R.r3 (ix4 b u m j) = (R.ch b u).dv j m := by
  pointwise [val_main_v107]
  refine (v105_at R b u (hd j) (rest j) m).trans ?_
  rw [Cert.Math.col_hd_rest]

theorem v108_at (m : Fin 256) (e : Fin 896) :
    val_main_v108 (F := Ideal) R.x1 R.x3 R.x5 R.x8 R.x9 R.r0 R.r1 R.r2 R.r3 R.r4 (ix4 b u m e)
      = ∑ j, R.r3 (ix2 e j) * R.x8 (ix1 j) * (R.ch b u).dk j m := by
  pointwise [val_main_v108]
  exact Finset.sum_congr rfl fun j _ => by rw [v106_at, v6_at, mul_comm]

theorem v109_at (m : Fin 256) (e : Fin 896) :
    val_main_v109 (F := Ideal) R.x1 R.x3 R.x5 R.x8 R.x9 R.r0 R.r1 R.r2 R.r3 R.r4 (ix4 b u m e)
      = ∑ j, R.r4 (ix2 e j) * R.x9 (ix1 j) * (R.ch b u).dv j m := by
  pointwise [val_main_v109]
  exact Finset.sum_congr rfl fun j _ => by rw [v107_at, v10_at, mul_comm]

theorem v111_at (m : Fin 256) (e : Fin 896) :
    val_main_v111 (F := Ideal) R.x1 R.x3 R.x5 R.x8 R.x9 R.r0 R.r1 R.r2 R.r3 R.r4 (ix4 b u m e) = R.data.demb b u m e := by
  rw [val_main_v111_apply, val_main_v110_apply, v108_at, v109_at]
  rfl

theorem v112_at (n : Fin 2) (l : Fin 128) (e : Fin 896) :
    val_main_v112 (F := Ideal) R.x1 R.x3 R.x5 R.x8 R.x9 R.r0 R.r1 R.r2 R.r3 R.r4 (ix5 b u n l e)
      = R.data.demb b u ⟨n.val * 128 + l.val, by omega⟩ e := by
  pointwise [val_main_v112]
  exact v111_at R b u _ e

theorem v115_at (m : Fin 256) (e : Fin 896) : val_main_v115 (F := Ideal) R.x5 (ix4 b u m e) = (R.ch b u).es m := by
  pointwise [val_main_v115, val_main_v114, val_main_v113]
  exact v2_at R b u m

theorem v116_at (m : Fin 256) (e : Fin 896) : val_main_v116 (F := Ideal) R.x5 R.r2 (ix4 b u m e) = (R.ch b u).em m e * (R.ch b u).es m := by
  rw [val_main_v116_apply, v1_at, v115_at]
  rfl

theorem v117_at (m : Fin 256) (e : Fin 896) :
    val_main_v117 (F := Ideal) R.x5 R.r2 (ix3 b ⟨u.val * 256 + m.val, by omega⟩ e) = (R.ch b u).em m e * (R.ch b u).es m := by
  pointwise [val_main_v117]
  exact v116_at R b u m e

theorem v118_at (m : Fin 256) (j : Fin 2560) :
    val_main_v118 (F := Ideal) R.x1 R.x3 R.x5 R.x8 R.x9 R.r0 R.r1 R.r2 R.r3 R.r4 (ix3 b ⟨u.val * 256 + m.val, by omega⟩ j) = (R.ch b u).dk j m := by
  pointwise [val_main_v118]
  exact v106_at R b u m j

theorem v121_at (m : Fin 256) (j : Fin 2560) :
    val_main_v121 (F := Ideal) R.x1 R.x3 R.x5 R.x8 R.r0 R.r1 R.r2 R.r3 (ix3 b ⟨u.val * 256 + m.val, by omega⟩ j) = (R.ch b u).dv j m := by
  pointwise [val_main_v121]
  exact v107_at R b u m j

theorem v119_at (e : Fin 896) (j : Fin 2560) :
    val_main_v119 (F := Ideal) R.x1 R.x3 R.x5 R.x8 R.x9 R.r0 R.r1 R.r2 R.r3 R.r4 (ix3 b e j) = ∑ u, (R.ch b u).dw (R.ch b u).dk e j := by
  pointwise [val_main_v119]
  rw [Fin.sum_univ_tiles 8 256 (by decide)]
  exact Finset.sum_congr rfl fun u _ => Finset.sum_congr rfl fun m _ => by rw [v117_at, v118_at]

theorem v122_at (e : Fin 896) (j : Fin 2560) :
    val_main_v122 (F := Ideal) R.x1 R.x3 R.x5 R.x8 R.r0 R.r1 R.r2 R.r3 (ix3 b e j) = ∑ u, (R.ch b u).dw (R.ch b u).dv e j := by
  pointwise [val_main_v122]
  rw [Fin.sum_univ_tiles 8 256 (by decide)]
  exact Finset.sum_congr rfl fun u _ => Finset.sum_congr rfl fun m _ => by rw [v117_at, v121_at]

theorem v120_at (e : Fin 896) (j : Fin 2560) :
    val_main_v120 (F := Ideal) R.x1 R.x3 R.x5 R.x8 R.x9 R.r0 R.r1 R.r2 R.r3 R.r4 (ix2 e j) = R.data.dwk e j := by
  pointwise [val_main_v120]
  simp only [v119_at, val_main_cst_6_apply, zero_word, zero_add]
  rfl

theorem v123_at (e : Fin 896) (j : Fin 2560) :
    val_main_v123 (F := Ideal) R.x1 R.x3 R.x5 R.x8 R.r0 R.r1 R.r2 R.r3 (ix2 e j) = R.data.dwv e j := by
  pointwise [val_main_v123]
  simp only [v122_at, val_main_cst_7_apply, zero_word, zero_add]
  rfl

end Cert.ReferenceIdeal.Hand
-- ==== Proof.RIdeal.Decode.lean ====
module

public import proofs.«01_k».proof.Proof.RIdeal.Grads
public import proofs.«01_k».proof.Proof.Gen.ReferenceIdeal.Run
public import Idealize.ShloMosaic.Lib.Pipeline.ValueKit

/-!
The reference decodes its fp8 arguments first. As extended reals the decoded arrays are the arguments.
-/

@[expose] public section

namespace Cert.ReferenceIdeal.Hand

open Idealize.ShloMosaic Idealize.ShloMosaic.TcCoe Idealize.ShloMosaic.Tactic
open Cert.ReferenceIdeal Cert.ReferenceIdeal.Gen
open Idealize.ShloMosaic.Pipeline (Dat)

variable (m : (ℓ : Loc nD τ sig) → Buf (Elt Ideal) ℓ) (c : Dev nD)

/-- The only grid point. -/
def t0 : Fin cfg0.N := ⟨0, by decide⟩

theorem idx0 : win0_0.index t0 = ![0, 0, 0, 0] := by decide +kernel

/-- Array 0 is read whole. -/
theorem rd0 (y : S4x512x16x160.Idx) : iblk m c 0 t0 y = m ((c.tc : Thread nD τ).loc main_arg0) y := by
  idx_vars y
  blk_ext! [iblk, V, idx0]

/-- Decoded array 0 is the argument. -/
theorem reg0 : (Value.reg_main_v0_0 m c : S4x512x16x160.Idx → EReal) = m ((c.tc : Thread nD τ).loc main_arg0) := by
  refine Dat.arrAt_eq_of_after_last (Gen.dats m 0 c) 5 t0 (by decide +kernel) _ fun y => ?_
  rw [after0_5]
  unfold out0_5 r0_0
  rw [View.canon_unit_zero (by funext a; fin_cases a <;> rfl), View.ld_unit_zero (by funext a; fin_cases a <;> rfl)]
  exact rd0 m c y

theorem idx1 : win0_1.index t0 = ![0, 0, 0] := by decide +kernel

/-- Array 1 is read whole. -/
theorem rd1 (y : S4x512x2560.Idx) : iblk m c 1 t0 y = m ((c.tc : Thread nD τ).loc main_arg2) y := by
  idx_vars y
  blk_ext! [iblk, V, idx1]

/-- Decoded array 1 is the argument. -/
theorem reg1 : (Value.reg_main_v0_1 m c : S4x512x2560.Idx → EReal) = m ((c.tc : Thread nD τ).loc main_arg2) := by
  refine Dat.arrAt_eq_of_after_last (Gen.dats m 0 c) 6 t0 (by decide +kernel) _ fun y => ?_
  rw [after0_6]
  unfold out0_6 r0_1
  rw [View.canon_unit_zero (by funext a; fin_cases a <;> rfl), View.ld_unit_zero (by funext a; fin_cases a <;> rfl)]
  exact rd1 m c y

theorem idx2 : win0_2.index t0 = ![0, 0, 0, 0, 0] := by decide +kernel

/-- Array 2 is read whole. -/
theorem rd2 (y : S4x8x2x128x896.Idx) : iblk m c 2 t0 y = m ((c.tc : Thread nD τ).loc main_arg4) y := by
  idx_vars y
  blk_ext! [iblk, V, idx2]

/-- Decoded array 2 is the argument. -/
theorem reg2 : (Value.reg_main_v0_2 m c : S4x8x2x128x896.Idx → EReal) = m ((c.tc : Thread nD τ).loc main_arg4) := by
  refine Dat.arrAt_eq_of_after_last (Gen.dats m 0 c) 7 t0 (by decide +kernel) _ fun y => ?_
  rw [after0_7]
  unfold out0_7 r0_2
  rw [View.canon_unit_zero (by funext a; fin_cases a <;> rfl), View.ld_unit_zero (by funext a; fin_cases a <;> rfl)]
  exact rd2 m c y

theorem idx3 : win0_3.index t0 = ![0, 0] := by decide +kernel

/-- Array 3 is read whole. -/
theorem rd3 (y : S896x2560.Idx) : iblk m c 3 t0 y = m ((c.tc : Thread nD τ).loc main_arg6) y := by
  idx_vars y
  blk_ext! [iblk, V, idx3]

/-- Decoded array 3 is the argument. -/
theorem reg3 : (Value.reg_main_v0_3 m c : S896x2560.Idx → EReal) = m ((c.tc : Thread nD τ).loc main_arg6) := by
  refine Dat.arrAt_eq_of_after_last (Gen.dats m 0 c) 8 t0 (by decide +kernel) _ fun y => ?_
  rw [after0_8]
  unfold out0_8 r0_3
  rw [View.canon_unit_zero (by funext a; fin_cases a <;> rfl), View.ld_unit_zero (by funext a; fin_cases a <;> rfl)]
  exact rd3 m c y

theorem idx4 : win0_4.index t0 = ![0, 0] := by decide +kernel

/-- Array 4 is read whole. -/
theorem rd4 (y : S896x2560.Idx) : iblk m c 4 t0 y = m ((c.tc : Thread nD τ).loc main_arg7) y := by
  idx_vars y
  blk_ext! [iblk, V, idx4]

/-- Decoded array 4 is the argument. -/
theorem reg4 : (Value.reg_main_v0_4 m c : S896x2560.Idx → EReal) = m ((c.tc : Thread nD τ).loc main_arg7) := by
  refine Dat.arrAt_eq_of_after_last (Gen.dats m 0 c) 9 t0 (by decide +kernel) _ fun y => ?_
  rw [after0_9]
  unfold out0_9 r0_3
  rw [View.canon_unit_zero (by funext a; fin_cases a <;> rfl), View.ld_unit_zero (by funext a; fin_cases a <;> rfl)]
  exact rd4 m c y

/-- What the operations after the decoding read. -/
def args : Args where
  x1 := m ((c.tc : Thread nD τ).loc main_arg1)
  x3 := m ((c.tc : Thread nD τ).loc main_arg3)
  x5 := m ((c.tc : Thread nD τ).loc main_arg5)
  x8 := m ((c.tc : Thread nD τ).loc main_arg8)
  x9 := m ((c.tc : Thread nD τ).loc main_arg9)
  r0 := m ((c.tc : Thread nD τ).loc main_arg0)
  r1 := m ((c.tc : Thread nD τ).loc main_arg2)
  r2 := m ((c.tc : Thread nD τ).loc main_arg4)
  r3 := m ((c.tc : Thread nD τ).loc main_arg6)
  r4 := m ((c.tc : Thread nD τ).loc main_arg7)

theorem at_r0 : Value.exitV m c (Proc.devRef .tc main_v0_0) = (args m c).r0 := (Value.exit_main_v0_0 m c).trans (reg0 m c)
theorem at_r1 : Value.exitV m c (Proc.devRef .tc main_v0_1) = (args m c).r1 := (Value.exit_main_v0_1 m c).trans (reg1 m c)
theorem at_r2 : Value.exitV m c (Proc.devRef .tc main_v0_2) = (args m c).r2 := (Value.exit_main_v0_2 m c).trans (reg2 m c)
theorem at_r3 : Value.exitV m c (Proc.devRef .tc main_v0_3) = (args m c).r3 := (Value.exit_main_v0_3 m c).trans (reg3 m c)
theorem at_r4 : Value.exitV m c (Proc.devRef .tc main_v0_4) = (args m c).r4 := (Value.exit_main_v0_4 m c).trans (reg4 m c)
theorem at_x1 : Value.exitV m c (Proc.devRef .tc main_arg1) = (args m c).x1 := Value.exit_main_arg1 m c
theorem at_x3 : Value.exitV m c (Proc.devRef .tc main_arg3) = (args m c).x3 := Value.exit_main_arg3 m c
theorem at_x5 : Value.exitV m c (Proc.devRef .tc main_arg5) = (args m c).x5 := Value.exit_main_arg5 m c
theorem at_x8 : Value.exitV m c (Proc.devRef .tc main_arg8) = (args m c).x8 := Value.exit_main_arg8 m c
theorem at_x9 : Value.exitV m c (Proc.devRef .tc main_arg9) = (args m c).x9 := Value.exit_main_arg9 m c

end Cert.ReferenceIdeal.Hand
-- ==== Proof.RIdeal.Results.lean ====
module

public import proofs.«01_k».proof.Proof.RIdeal.Decode
public import Idealize.ShloMosaic.Lib.Claim

/-!
The reference's run: its four results hold the gradients of the problem's data.
-/

@[expose] public section

namespace Cert.ReferenceIdeal.Hand

open Idealize.ShloMosaic Idealize.ShloMosaic.TcCoe
open Idealize.SL.Sem
open Cert.ReferenceIdeal Cert.ReferenceIdeal.Gen Cert.ReferenceIdeal.Read
open Cert.Math (col)

variable (m : (ℓ : Loc nD τ sig) → Buf (Elt Ideal) ℓ) (c : Dev nD)

theorem v97_val (R : Args) : val_main_v97 (F := Ideal) R.x1 R.x3 R.x5 R.x8 R.x9 R.r0 R.r1 R.r2 R.r3 R.r4
    = fun y : S4x512x16x160.Idx => R.data.dq (y 0) (y 1) (col (y 2) (y 3)) := by
  funext y
  idx_vars y
  exact v97_at R _ _ _ _

theorem v112_val (R : Args) : val_main_v112 (F := Ideal) R.x1 R.x3 R.x5 R.x8 R.x9 R.r0 R.r1 R.r2 R.r3 R.r4
    = fun y : S4x8x2x128x896.Idx => R.data.demb (y 0) (y 1) ⟨(y 2).val * 128 + (y 3).val, by have := (y 2).isLt; have := (y 3).isLt; dsimp at *; omega⟩ (y 4) := by
  funext y
  idx_vars y
  exact v112_at R _ _ _ _ _

theorem v120_val (R : Args) : val_main_v120 (F := Ideal) R.x1 R.x3 R.x5 R.x8 R.x9 R.r0 R.r1 R.r2 R.r3 R.r4
    = fun y : S896x2560.Idx => R.data.dwk (y 0) (y 1) := by
  funext y
  idx_vars y
  exact v120_at R _ _

theorem v123_val (R : Args) : val_main_v123 (F := Ideal) R.x1 R.x3 R.x5 R.x8 R.r0 R.r1 R.r2 R.r3
    = fun y : S896x2560.Idx => R.data.dwv (y 0) (y 1) := by
  funext y
  idx_vars y
  exact v123_at R _ _

theorem run (ρ : Dev nD → PrngReg) :
    θ_run (defs (F := Ideal)) (onTc (τ := τ) (main (F := Ideal))) ⟨m, fun _ => 0, ρ⟩ fun r => ∀ c : Dev nD,
      (r.2.mem ((c.tc : Thread nD τ).loc main_v97) = fun y : S4x512x16x160.Idx => (args m c).data.dq (y 0) (y 1) (col (y 2) (y 3)))
      ∧ (r.2.mem ((c.tc : Thread nD τ).loc main_v112) = fun y : S4x8x2x128x896.Idx =>
          (args m c).data.demb (y 0) (y 1) ⟨(y 2).val * 128 + (y 3).val, by have := (y 2).isLt; have := (y 3).isLt; dsimp at *; omega⟩ (y 4))
      ∧ (r.2.mem ((c.tc : Thread nD τ).loc main_v120) = fun y : S896x2560.Idx => (args m c).data.dwk (y 0) (y 1))
      ∧ (r.2.mem ((c.tc : Thread nD τ).loc main_v123) = fun y : S896x2560.Idx => (args m c).data.dwv (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run (defs (F := Ideal)) _ _).mono (fun r h c => ?_) (Value.run m ρ)
  obtain ⟨h0, h1, h2, h3, h4⟩ := h c
  have e0 := h0.trans (val_main_v97_eq (Value.exitV m c))
  have e1 := h1.trans (val_main_v112_eq (Value.exitV m c))
  have e2 := h2.trans (val_main_v120_eq (Value.exitV m c))
  have e3 := h3.trans (val_main_v123_eq (Value.exitV m c))
  rw [at_x1, at_x3, at_x5, at_x8, at_x9, at_r0, at_r1, at_r2, at_r3, at_r4] at e0 e1 e2
  rw [at_x1, at_x3, at_x5, at_x8, at_r0, at_r1, at_r2, at_r3] at e3
  exact ⟨e0.trans (v97_val (args m c)), e1.trans (v112_val (args m c)), e2.trans (v120_val (args m c)), e3.trans (v123_val (args m c)), h4⟩

end Cert.ReferenceIdeal.Hand
-- ==== Proof.Algebraic.lean ====
module

public import proofs.«01_k».proof.Defs
public import proofs.«01_k».proof.Proof.KIdeal.Results
public import proofs.«01_k».proof.Proof.RIdeal.Results

/-!
Over the extended reals the kernel and the reference end with the same four results: both hold the gradients of the
data in the arguments, and the arguments agree.
-/

@[expose] public section

namespace Cert.Hand

open Idealize.ShloMosaic

/-- Memories agreeing on the arguments hold the same data. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Hand.args m' c).data = Cert.KernelIdeal.Hand.argData m c := by
  unfold Cert.ReferenceIdeal.Hand.Args.data Cert.ReferenceIdeal.Hand.args Cert.KernelIdeal.Hand.argData
  dsimp only
  rw [h0, h1, h2, h3, h4, h5, h6, h7, h8, h9]

theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, _, Cert.KernelIdeal.Hand.run m g, ?_⟩
  refine (θ_run (Cert.ReferenceIdeal.defs (F := Ideal)) _ _).mono (fun r h c => ?_) (Cert.ReferenceIdeal.Hand.run m' g')
  obtain ⟨h0, h1, h2, h3, h4, h5, h6, h7, h8, h9⟩ := hagree c
  obtain ⟨e0, e1, e2, e3, hA⟩ := h c
  rw [data_eq m m' c h0 h1 h2 h3 h4 h5 h6 h7 h8 h9] at e0 e1 e2 e3
  exact ⟨e0, e1, e2, e3, hA⟩

end Cert.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KIdeal.Run
public import proofs.«01_k».proof.Proof.KBits.Frame
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  trivial, Cert.Hand.algebraic⟩

end Cert.Proof

end
